-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_pages_in_pool : Cert.Pre_pages_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_pages_in_pool : Cert.Pre_pages_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v35)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v201) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_pages_in_pool : Cert.Pre_pages_in_pool.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_ReferenceIdeal (hReferenceIdeal := hReferenceIdeal) (hPre_pages_in_pool := hPre_pages_in_pool)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_pages_in_pool := hPre_pages_in_pool)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_pages_in_pool.lean ====
abbrev S128x4x16x128 : Shape := ⟨4, ![128, 4, 16, 128]⟩
abbrev S128x4x16 : Shape := ⟨3, ![128, 4, 16]⟩
abbrev S128x4x128 : Shape := ⟨3, ![128, 4, 128]⟩
abbrev S2560x128x128 : Shape := ⟨3, ![2560, 128, 128]⟩
abbrev S128x16 : Shape := ⟨2, ![128, 16]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : FVec F S128x4x16x128 .f32) (main_arg1 : FVec F S128x4x16 .f32) (main_arg2 : FVec F S128x4x128 .f32) (main_arg3 : FVec F S2560x128x128 .f32) (main_arg4 : IVec S128x16 32) : IVec S128x16 1 :=
  let main_c : IVec S_ 32 := constantI S_ 32 0#32
  let main_v0 : IVec S128x16 32 := broadcastInDim S128x16 ![] bcast_S_S128x16 main_c
  let main_v1 : IVec S128x16 1 := cmpi .sge main_arg4 main_v0
  let main_c_0 : IVec S_ 32 := constantI S_ 32 2560#32
  let main_v2 : IVec S128x16 32 := broadcastInDim S128x16 ![] bcast_S_S128x16 main_c_0
  let main_v3 : IVec S128x16 1 := cmpi .slt main_arg4 main_v2
  let main_v4 : IVec S128x16 1 := andi main_v1 main_v3
  main_v4
-- ==== Kernel.lean ====
abbrev S128x4x16x128 : Shape := ⟨4, ![128, 4, 16, 128]⟩
abbrev S128x4x16 : Shape := ⟨3, ![128, 4, 16]⟩
abbrev S128x4x128 : Shape := ⟨3, ![128, 4, 128]⟩
abbrev S2560x128x128 : Shape := ⟨3, ![2560, 128, 128]⟩
abbrev S128x16 : Shape := ⟨2, ![128, 16]⟩
abbrev S128x64x128 : Shape := ⟨3, ![128, 64, 128]⟩
abbrev S128x64x1 : Shape := ⟨3, ![128, 64, 1]⟩
abbrev S_ : Shape := ⟨0, ![]⟩
abbrev S128x8x128 : Shape := ⟨3, ![128, 8, 128]⟩
abbrev S128x4x2176 : Shape := ⟨3, ![128, 4, 2176]⟩
abbrev S1x64x128 : Shape := ⟨3, ![1, 64, 128]⟩
abbrev S1x64x1 : Shape := ⟨3, ![1, 64, 1]⟩
abbrev S1x8x128 : Shape := ⟨3, ![1, 8, 128]⟩
abbrev S1x128x128 : Shape := ⟨3, ![1, 128, 128]⟩
abbrev S1x1 : Shape := ⟨2, ![1, 1]⟩
abbrev S1x4x2176 : Shape := ⟨3, ![1, 4, 2176]⟩
abbrev S64x128 : Shape := ⟨2, ![64, 128]⟩
abbrev S64x1 : Shape := ⟨2, ![64, 1]⟩
abbrev S128x128 : Shape := ⟨2, ![128, 128]⟩
abbrev S16x128 : Shape := ⟨2, ![16, 128]⟩
abbrev S128 : Shape := ⟨1, ![128]⟩
abbrev S1x128 : Shape := ⟨2, ![1, 128]⟩
abbrev S4x128 : Shape := ⟨2, ![4, 128]⟩
abbrev S1x4x128 : Shape := ⟨3, ![1, 4, 128]⟩
abbrev S8x128 : Shape := ⟨2, ![8, 128]⟩
abbrev S120x128 : Shape := ⟨2, ![120, 128]⟩

abbrev nBuf : Space → Nat
  | .hbm => 10
  | .vmem => 40
  | .smem => 1
  | _ => 0

abbrev bufTy : (tb : Table) → Fin (tcTables nBuf tb) → BufTy
  | .hbm, ⟨0, _⟩ => ⟨S128x4x16x128, .f32⟩
  | .hbm, ⟨1, _⟩ => ⟨S128x4x16, .f32⟩
  | .hbm, ⟨2, _⟩ => ⟨S128x4x128, .f32⟩
  | .hbm, ⟨3, _⟩ => ⟨S2560x128x128, .f32⟩
  | .hbm, ⟨4, _⟩ => ⟨S128x64x128, .f32⟩
  | .hbm, ⟨5, _⟩ => ⟨S128x64x1, .f32⟩
  | .hbm, ⟨6, _⟩ => ⟨S_, .i32⟩
  | .hbm, ⟨7, _⟩ => ⟨S_, .f32⟩
  | .hbm, ⟨8, _⟩ => ⟨S128x8x128, .f32⟩
  | .hbm, ⟨9, _⟩ => ⟨S128x4x2176, .f32⟩
  | .local _ .vmem, ⟨0, _⟩ => ⟨S1x64x128, .f32⟩
  | .local _ .vmem, ⟨1, _⟩ => ⟨S1x64x128, .f32⟩
  | .local _ .vmem, ⟨2, _⟩ => ⟨S1x64x1, .f32⟩
  | .local _ .vmem, ⟨3, _⟩ => ⟨S1x64x1, .f32⟩
  | .local _ .vmem, ⟨4, _⟩ => ⟨S1x8x128, .f32⟩
  | .local _ .vmem, ⟨5, _⟩ => ⟨S1x8x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S1x128x128, .f32⟩
  | .local _ .vmem, ⟨32, _⟩ => ⟨S1x128x128, .f32⟩
  | .local _ .vmem, ⟨33, _⟩ => ⟨S1x128x128, .f32⟩
  | .local _ .vmem, ⟨34, _⟩ => ⟨S1x128x128, .f32⟩
  | .local _ .vmem, ⟨35, _⟩ => ⟨S1x128x128, .f32⟩
  | .local _ .vmem, ⟨36, _⟩ => ⟨S1x128x128, .f32⟩
  | .local _ .vmem, ⟨37, _⟩ => ⟨S1x128x128, .f32⟩
  | .local _ .vmem, ⟨38, _⟩ => ⟨S1x4x2176, .f32⟩
  | .local _ .vmem, ⟨39, _⟩ => ⟨S1x4x2176, .f32⟩
  | .local _ .smem, ⟨0, _⟩ => ⟨S128x16, .i32⟩
  | _, _ => ⟨S128x4x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_11 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_12 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_13 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_14 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_15 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_16 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_17 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_18 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x2176 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S128x4x16x128 : Shape := ⟨4, ![128, 4, 16, 128]⟩
abbrev S128x4x16 : Shape := ⟨3, ![128, 4, 16]⟩
abbrev S128x4x128 : Shape := ⟨3, ![128, 4, 128]⟩
abbrev S2560x128x128 : Shape := ⟨3, ![2560, 128, 128]⟩
abbrev S128x16 : Shape := ⟨2, ![128, 16]⟩
abbrev S_ : Shape := ⟨0, ![]⟩
abbrev S128x16x1 : Shape := ⟨3, ![128, 16, 1]⟩
abbrev S128x16x128x128 : Shape := ⟨4, ![128, 16, 128, 128]⟩
abbrev S128x2048x128 : Shape := ⟨3, ![128, 2048, 128]⟩
abbrev S128x2052x128 : Shape := ⟨3, ![128, 2052, 128]⟩
abbrev S128x4x16x2052 : Shape := ⟨4, ![128, 4, 16, 2052]⟩
abbrev S128x4x2052 : Shape := ⟨3, ![128, 4, 2052]⟩
abbrev S128x4x2176 : Shape := ⟨3, ![128, 4, 2176]⟩

abbrev nBuf : Space → Nat
  | .hbm => 23
  | .vmem => 0
  | .smem => 0
  | _ => 0

abbrev bufTy : (tb : Table) → Fin (tcTables nBuf tb) → BufTy
  | .hbm, ⟨0, _⟩ => ⟨S128x4x16x128, .f32⟩
  | .hbm, ⟨1, _⟩ => ⟨S128x4x16, .f32⟩
  | .hbm, ⟨2, _⟩ => ⟨S128x4x128, .f32⟩
  | .hbm, ⟨3, _⟩ => ⟨S2560x128x128, .f32⟩
  | .hbm, ⟨4, _⟩ => ⟨S128x16, .i32⟩
  | .hbm, ⟨5, _⟩ => ⟨S_, .i32⟩
  | .hbm, ⟨6, _⟩ => ⟨S128x16, .i32⟩
  | .hbm, ⟨7, _⟩ => ⟨S128x16, .i1⟩
  | .hbm, ⟨8, _⟩ => ⟨S_, .i32⟩
  | .hbm, ⟨9, _⟩ => ⟨S128x16, .i32⟩
  | .hbm, ⟨10, _⟩ => ⟨S128x16, .i32⟩
  | .hbm, ⟨11, _⟩ => ⟨S128x16, .i32⟩
  | .hbm, ⟨12, _⟩ => ⟨S128x16x1, .i32⟩
  | .hbm, ⟨13, _⟩ => ⟨S128x16x128x128, .f32⟩
  | .hbm, ⟨14, _⟩ => ⟨S128x2048x128, .f32⟩
  | .hbm, ⟨15, _⟩ => ⟨S128x2052x128, .f32⟩
  | .hbm, ⟨16, _⟩ => ⟨S128x4x16x2052, .f32⟩
  | .hbm, ⟨17, _⟩ => ⟨S_, .f32⟩
  | .hbm, ⟨18, _⟩ => ⟨S128x4x16x2052, .f32⟩
  | .hbm, ⟨19, _⟩ => ⟨S128x4x16x2052, .f32⟩
  | .hbm, ⟨20, _⟩ => ⟨S128x4x2052, .f32⟩
  | .hbm, ⟨21, _⟩ => ⟨S_, .f32⟩
  | .hbm, ⟨22, _⟩ => ⟨S128x4x2176, .f32⟩
  | _, _ => ⟨S128x4x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel2.lean ====
abbrev S8x2048x2048 : Shape := ⟨3, ![8, 2048, 2048]⟩
abbrev S8x1x2048 : Shape := ⟨3, ![8, 1, 2048]⟩
abbrev S2048 : Shape := ⟨1, ![2048]⟩
abbrev S2048x10384 : Shape := ⟨2, ![2048, 10384]⟩
abbrev S128 : Shape := ⟨1, ![128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16384x2048 : Shape := ⟨2, ![16384, 2048]⟩
abbrev S2048x2048 : Shape := ⟨2, ![2048, 2048]⟩
abbrev S2048x512 : Shape := ⟨2, ![2048, 512]⟩
abbrev S2048x16 : Shape := ⟨2, ![2048, 16]⟩
abbrev S2048x1024 : Shape := ⟨2, ![2048, 1024]⟩
abbrev S2048x112 : Shape := ⟨2, ![2048, 112]⟩
abbrev S2048x256 : Shape := ⟨2, ![2048, 256]⟩
abbrev S2048x10752 : Shape := ⟨2, ![2048, 10752]⟩
abbrev S1x2048 : Shape := ⟨2, ![1, 2048]⟩
abbrev S1x128 : Shape := ⟨2, ![1, 128]⟩
abbrev S16384x10752 : Shape := ⟨2, ![16384, 10752]⟩
abbrev S1024x2048 : Shape := ⟨2, ![1024, 2048]⟩
abbrev S1x1x2048 : Shape := ⟨3, ![1, 1, 2048]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1024x256 : Shape := ⟨2, ![1024, 256]⟩

abbrev nBuf : Space → Nat
  | .hbm => 47
  | .vmem => 18
  | .smem => 0
  | _ => 0

abbrev bufTy : (tb : Table) → Fin (tcTables nBuf tb) → BufTy
  | .hbm, ⟨0, _⟩ => ⟨S8x2048x2048, .f32⟩
  | .hbm, ⟨1, _⟩ => ⟨S8x1x2048, .f32⟩
  | .hbm, ⟨2, _⟩ => ⟨S8x1x2048, .f32⟩
  | .hbm, ⟨3, _⟩ => ⟨S2048, .f32⟩
  | .hbm, ⟨4, _⟩ => ⟨S2048x10384, .f32⟩
  | .hbm, ⟨5, _⟩ => ⟨S128, .f32⟩
  | .hbm, ⟨6, _⟩ => ⟨S128, .f32⟩
  | .hbm, ⟨7, _⟩ => ⟨S2048, .i32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2048, .f32⟩
  | .hbm, ⟨17, _⟩ => ⟨S2048x1, .f32⟩
  | .hbm, ⟨18, _⟩ => ⟨S1x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x128, .f32⟩
  | .hbm, ⟨25, _⟩ => ⟨S2048x64, .f32⟩
  | .hbm, ⟨26, _⟩ => ⟨S2048x128, .f32⟩
  | .hbm, ⟨27, _⟩ => ⟨S16384x2048, .f32⟩
  | .hbm, ⟨28, _⟩ => ⟨S2048x2048, .f32⟩
  | .hbm, ⟨29, _⟩ => ⟨S2048x512, .f32⟩
  | .hbm, ⟨30, _⟩ => ⟨S2048x512, .f32⟩
  | .hbm, ⟨31, _⟩ => ⟨S2048x2048, .f32⟩
  | .hbm, ⟨32, _⟩ => ⟨S2048x128, .f32⟩
  | .hbm, ⟨33, _⟩ => ⟨S2048x16, .f32⟩
  | .hbm, ⟨34, _⟩ => ⟨S2048x1024, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x112, .f32⟩
  | .hbm, ⟨39, _⟩ => ⟨S_, .f32⟩
  | .hbm, ⟨40, _⟩ => ⟨S2048x256, .f32⟩
  | .hbm, ⟨41, _⟩ => ⟨S2048x10752, .f32⟩
  | .hbm, ⟨42, _⟩ => ⟨S2048x10752, .bf16⟩
  | .hbm, ⟨43, _⟩ => ⟨S1x2048, .f32⟩
  | .hbm, ⟨44, _⟩ => ⟨S1x128, .f32⟩
  | .hbm, ⟨45, _⟩ => ⟨S1x128, .f32⟩
  | .hbm, ⟨46, _⟩ => ⟨S16384x10752, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x128, .f32⟩
  | .local _ .vmem, ⟨14, _⟩ => ⟨S1x128, .f32⟩
  | .local _ .vmem, ⟨15, _⟩ => ⟨S1024x512, .f32⟩
  | .local _ .vmem, ⟨16, _⟩ => ⟨S1024x512, .f32⟩
  | .local _ .vmem, ⟨17, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 21], ![false, false]⟩

def k0_cond2 (i : grid0.Coords) : BitVec 1 :=
  let arg1 : BitVec 32 := BitVec.ofNat 32 (i 1).val
  let c4_i32 : BitVec 32 := 4#32
  let v11 : BitVec 1 := Scalar.cmpi .slt arg1 c4_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg1 : BitVec 32 := BitVec.ofNat 32 (i 1).val
  let c4_i32_9 : BitVec 32 := 4#32
  let v14 : BitVec 1 := Scalar.cmpi .sge arg1 c4_i32_9
  let c8_i32 : BitVec 32 := 8#32
  let v15 : BitVec 1 := Scalar.cmpi .slt arg1 c8_i32
  let v16 : BitVec 1 := Scalar.andi v14 v15
  let v17 : BitVec 32 := Scalar.extui v16
  let c0_i32_10 : BitVec 32 := 0#32
  let v18 : BitVec 1 := Scalar.cmpi .ne v17 c0_i32_10
  v18

def k0_cond4 (i : grid0.Coords) : BitVec 1 :=
  let arg1 : BitVec 32 := BitVec.ofNat 32 (i 1).val
  let c8_i32_11 : BitVec 32 := 8#32
  let v19 : BitVec 1 := Scalar.cmpi .eq arg1 c8_i32_11
  let v20 : BitVec 32 := Scalar.extui v19
  let c0_i32_12 : BitVec 32 := 0#32
  let v21 : BitVec 1 := Scalar.cmpi .ne v20 c0_i32_12
  v21

def k0_cond5 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_13 : BitVec 32 := 0#32
  let v24 : BitVec 1 := Scalar.cmpi .ne v23 c0_i32_13
  v24

def k0_cond6 (i : grid0.Coords) : BitVec 1 :=
  let arg1 : BitVec 32 := BitVec.ofNat 32 (i 1).val
  let c9_i32 : BitVec 32 := 9#32
  let v25 : BitVec 1 := Scalar.cmpi .eq arg1 c9_i32
  let c10_i32_14 : BitVec 32 := 10#32
  let v26 : BitVec 1 := Scalar.cmpi .sgt arg1 c10_i32_14
  let v27 : BitVec 1 := Scalar.ori v25 v26
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x2048x2048 : Shape := ⟨3, ![8, 2048, 2048]⟩
abbrev S8x1x2048 : Shape := ⟨3, ![8, 1, 2048]⟩
abbrev S2048 : Shape := ⟨1, ![2048]⟩
abbrev S2048x10384 : Shape := ⟨2, ![2048, 10384]⟩
abbrev S128 : Shape := ⟨1, ![128]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x10384 : Shape := ⟨3, ![8, 2048, 10384]⟩
abbrev S8x2048x512 : Shape := ⟨3, ![8, 2048, 512]⟩
abbrev S8x2048x128 : Shape := ⟨3, ![8, 2048, 128]⟩
abbrev S8x2048x16 : Shape := ⟨3, ![8, 2048, 16]⟩
abbrev S8x2048x1024 : Shape := ⟨3, ![8, 2048, 1024]⟩
abbrev S8x2048x16x128 : Shape := ⟨4, ![8, 2048, 16, 128]⟩
abbrev S8x2048x16x1 : Shape := ⟨4, ![8, 2048, 16, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S8x2048x16x64 : Shape := ⟨4, ![8, 2048, 16, 64]⟩
abbrev S1x2048x1x64 : Shape := ⟨4, ![1, 2048, 1, 64]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S8x2048x4x64 : Shape := ⟨4, ![8, 2048, 4, 64]⟩
abbrev S8x2048x1x128 : Shape := ⟨4, ![8, 2048, 1, 128]⟩
abbrev S8x2048x1x64 : Shape := ⟨4, ![8, 2048, 1, 64]⟩
abbrev S8x2048x112 : Shape := ⟨3, ![8, 2048, 112]⟩
abbrev S8x2048x256 : Shape := ⟨3, ![8, 2048, 256]⟩
abbrev S8x2048x10752 : Shape := ⟨3, ![8, 2048, 10752]⟩
abbrev S16384x10752 : Shape := ⟨2, ![16384, 10752]⟩

abbrev nBuf : Space → Nat
  | .hbm => 230
  | .vmem => 0
  | .smem => 0
  | _ => 0

abbrev hbmTy0_0 (i : Nat) : BufTy := match i % 128 with
  | 0 => ⟨S8x2048x2048, .f32⟩
  | 1 => ⟨S8x1x2048, .f32⟩
  | 2 => ⟨S8x1x2048, .f32⟩
  | 3 => ⟨S2048, .f32⟩
  | 4 => ⟨S2048x10384, .f32⟩
  | 5 => ⟨S128, .f32⟩
  | 6 => ⟨S128, .f32⟩
  | 7 => ⟨S2048, .i32⟩
  | 8 => ⟨S8x2048x2048, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x2048, .f32⟩
  | 20 => ⟨S8x2048x2048, .f32⟩
  | 21 => ⟨S1x1x2048, .f32⟩
  | 22 => ⟨S8x2048x2048, .f32⟩
  | 23 => ⟨S8x2048x2048, .f32⟩
  | 24 => ⟨S_, .f32⟩
  | 25 => ⟨S8x1x2048, .f32⟩
  | 26 => ⟨S8x1x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x10384, .f32⟩
  | 32 => ⟨S8x2048x2048, .f32⟩
  | 33 => ⟨S8x2048x512, .f32⟩
  | 34 => ⟨S8x2048x512, .f32⟩
  | 35 => ⟨S8x2048x2048, .f32⟩
  | 36 => ⟨S8x2048x128, .f32⟩
  | 37 => ⟨S8x2048x16, .f32⟩
  | 38 => ⟨S8x2048x1024, .f32⟩
  | 39 => ⟨S8x2048x2048, .f32⟩
  | 40 => ⟨S8x2048x2048, .f32⟩
  | 41 => ⟨S8x2048x16x128, .f32⟩
  | 42 => ⟨S8x2048x16x128, .f32⟩
  | 43 => ⟨S_, .f32⟩
  | 44 => ⟨S8x2048x16, .f32⟩
  | 45 => ⟨S8x2048x16x1, .f32⟩
  | 46 => ⟨S_, .f32⟩
  | 47 => ⟨S8x2048x16x1, .f32⟩
  | 48 => ⟨S8x2048x16x1, .f32⟩
  | 49 => ⟨S_, .f32⟩
  | 50 => ⟨S8x2048x16x1, .f32⟩
  | 51 => ⟨S8x2048x16x1, .f32⟩
  | 52 => ⟨S8x2048x16x1, .f32⟩
  | 53 => ⟨S8x2048x16x128, .f32⟩
  | 54 => ⟨S8x2048x16x128, .f32⟩
  | 55 => ⟨S1x1x1x128, .f32⟩
  | 56 => ⟨S8x2048x16x128, .f32⟩
  | 57 => ⟨S8x2048x16x128, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S2048, .f32⟩
  | 67 => ⟨S2048x1, .f32⟩
  | 68 => ⟨S1x64, .f32⟩
  | 69 => ⟨S2048x64, .f32⟩
  | 70 => ⟨S2048x64, .f32⟩
  | 71 => ⟨S2048x64, .f32⟩
  | 72 => ⟨S2048x64, .f32⟩
  | 73 => ⟨S2048x1x64, .f32⟩
  | 74 => ⟨S2048x64, .f32⟩
  | 75 => ⟨S2048x1x64, .f32⟩
  | 76 => ⟨S8x2048x16x64, .f32⟩
  | 77 => ⟨S8x2048x16x64, .f32⟩
  | 78 => ⟨S1x2048x1x64, .f32⟩
  | 79 => ⟨S8x2048x16x64, .f32⟩
  | 80 => ⟨S8x2048x16x64, .f32⟩
  | 81 => ⟨S1x2048x1x64, .f32⟩
  | 82 => ⟨S8x2048x16x64, .f32⟩
  | 83 => ⟨S8x2048x16x64, .f32⟩
  | 84 => ⟨S8x2048x16x64, .f32⟩
  | 85 => ⟨S1x2048x1x64, .f32⟩
  | 86 => ⟨S8x2048x16x64, .f32⟩
  | 87 => ⟨S8x2048x16x64, .f32⟩
  | 88 => ⟨S1x2048x1x64, .f32⟩
  | 89 => ⟨S8x2048x16x64, .f32⟩
  | 90 => ⟨S8x2048x16x64, .f32⟩
  | 91 => ⟨S8x2048x16x64, .f32⟩
  | 92 => ⟨S8x2048x16x128, .f32⟩
  | 93 => ⟨S8x2048x4x128, .f32⟩
  | 94 => ⟨S8x2048x4x128, .f32⟩
  | 95 => ⟨S_, .f32⟩
  | 96 => ⟨S8x2048x4, .f32⟩
  | 97 => ⟨S8x2048x4x1, .f32⟩
  | 98 => ⟨S_, .f32⟩
  | 99 => ⟨S8x2048x4x1, .f32⟩
  | 100 => ⟨S8x2048x4x1, .f32⟩
  | 101 => ⟨S_, .f32⟩
  | 102 => ⟨S8x2048x4x1, .f32⟩
  | 103 => ⟨S8x2048x4x1, .f32⟩
  | 104 => ⟨S8x2048x4x1, .f32⟩
  | 105 => ⟨S8x2048x4x128, .f32⟩
  | 106 => ⟨S8x2048x4x128, .f32⟩
  | 107 => ⟨S1x1x1x128, .f32⟩
  | 108 => ⟨S8x2048x4x128, .f32⟩
  | 109 => ⟨S8x2048x4x128, .f32⟩
  | 110 => ⟨S64, .f32⟩
  | 111 => ⟨S64, .f32⟩
  | 112 => ⟨S_, .f32⟩
  | 113 => ⟨S64, .f32⟩
  | 114 => ⟨S64, .f32⟩
  | 115 => ⟨S_, .f32⟩
  | 116 => ⟨S64, .f32⟩
  | 117 => ⟨S64, .f32⟩
  | 118 => ⟨S2048, .f32⟩
  | 119 => ⟨S2048x1, .f32⟩
  | 120 => ⟨S1x64, .f32⟩
  | 121 => ⟨S2048x64, .f32⟩
  | 122 => ⟨S2048x64, .f32⟩
  | 123 => ⟨S2048x64, .f32⟩
  | 124 => ⟨S2048x64, .f32⟩
  | 125 => ⟨S2048x1x64, .f32⟩
  | 126 => ⟨S2048x64, .f32⟩
  | 127 => ⟨S2048x1x64, .f32⟩
  | _ => ⟨S8x2048x2048, .f32⟩

abbrev hbmTy0_1 (i : Nat) : BufTy := match i % 128 with
  | 0 => ⟨S8x2048x4x64, .f32⟩
  | 1 => ⟨S8x2048x4x64, .f32⟩
  | 2 => ⟨S1x2048x1x64, .f32⟩
  | 3 => ⟨S8x2048x4x64, .f32⟩
  | 4 => ⟨S8x2048x4x64, .f32⟩
  | 5 => ⟨S1x2048x1x64, .f32⟩
  | 6 => ⟨S8x2048x4x64, .f32⟩
  | 7 => ⟨S8x2048x4x64, .f32⟩
  | 8 => ⟨S8x2048x4x64, .f32⟩
  | 9 => ⟨S1x2048x1x64, .f32⟩
  | 10 => ⟨S8x2048x4x64, .f32⟩
  | 11 => ⟨S8x2048x4x64, .f32⟩
  | 12 => ⟨S1x2048x1x64, .f32⟩
  | 13 => ⟨S8x2048x4x64, .f32⟩
  | 14 => ⟨S8x2048x4x64, .f32⟩
  | 15 => ⟨S8x2048x4x64, .f32⟩
  | 16 => ⟨S8x2048x4x128, .f32⟩
  | 17 => ⟨S8x2048x16x128, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S2048, .f32⟩
  | 27 => ⟨S2048x1, .f32⟩
  | 28 => ⟨S1x64, .f32⟩
  | 29 => ⟨S2048x64, .f32⟩
  | 30 => ⟨S2048x64, .f32⟩
  | 31 => ⟨S2048x64, .f32⟩
  | 32 => ⟨S2048x64, .f32⟩
  | 33 => ⟨S2048x1x64, .f32⟩
  | 34 => ⟨S2048x64, .f32⟩
  | 35 => ⟨S2048x1x64, .f32⟩
  | 36 => ⟨S8x2048x16x64, .f32⟩
  | 37 => ⟨S8x2048x16x64, .f32⟩
  | 38 => ⟨S1x2048x1x64, .f32⟩
  | 39 => ⟨S8x2048x16x64, .f32⟩
  | 40 => ⟨S8x2048x16x64, .f32⟩
  | 41 => ⟨S1x2048x1x64, .f32⟩
  | 42 => ⟨S8x2048x16x64, .f32⟩
  | 43 => ⟨S8x2048x16x64, .f32⟩
  | 44 => ⟨S8x2048x16x64, .f32⟩
  | 45 => ⟨S1x2048x1x64, .f32⟩
  | 46 => ⟨S8x2048x16x64, .f32⟩
  | 47 => ⟨S8x2048x16x64, .f32⟩
  | 48 => ⟨S1x2048x1x64, .f32⟩
  | 49 => ⟨S8x2048x16x64, .f32⟩
  | 50 => ⟨S8x2048x16x64, .f32⟩
  | 51 => ⟨S8x2048x16x64, .f32⟩
  | 52 => ⟨S8x2048x16x128, .f32⟩
  | 53 => ⟨S8x2048x1x128, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S2048, .f32⟩
  | 63 => ⟨S2048x1, .f32⟩
  | 64 => ⟨S1x64, .f32⟩
  | 65 => ⟨S2048x64, .f32⟩
  | 66 => ⟨S2048x64, .f32⟩
  | 67 => ⟨S2048x64, .f32⟩
  | 68 => ⟨S2048x64, .f32⟩
  | 69 => ⟨S2048x1x64, .f32⟩
  | 70 => ⟨S2048x64, .f32⟩
  | 71 => ⟨S2048x1x64, .f32⟩
  | 72 => ⟨S8x2048x1x64, .f32⟩
  | 73 => ⟨S8x2048x1x64, .f32⟩
  | 74 => ⟨S1x2048x1x64, .f32⟩
  | 75 => ⟨S8x2048x1x64, .f32⟩
  | 76 => ⟨S8x2048x1x64, .f32⟩
  | 77 => ⟨S1x2048x1x64, .f32⟩
  | 78 => ⟨S8x2048x1x64, .f32⟩
  | 79 => ⟨S8x2048x1x64, .f32⟩
  | 80 => ⟨S8x2048x1x64, .f32⟩
  | 81 => ⟨S1x2048x1x64, .f32⟩
  | 82 => ⟨S8x2048x1x64, .f32⟩
  | 83 => ⟨S8x2048x1x64, .f32⟩
  | 84 => ⟨S1x2048x1x64, .f32⟩
  | 85 => ⟨S8x2048x1x64, .f32⟩
  | 86 => ⟨S8x2048x1x64, .f32⟩
  | 87 => ⟨S8x2048x1x64, .f32⟩
  | 88 => ⟨S8x2048x1x128, .f32⟩
  | 89 => ⟨S_, .f32⟩
  | 90 => ⟨S8x2048x16, .f32⟩
  | 91 => ⟨S8x2048x16, .f32⟩
  | 92 => ⟨S8x2048x2048, .f32⟩
  | 93 => ⟨S8x2048x2048, .f32⟩
  | 94 => ⟨S8x2048x512, .f32⟩
  | 95 => ⟨S8x2048x128, .f32⟩
  | 96 => ⟨S_, .f32⟩
  | 97 => ⟨S8x2048x112, .f32⟩
  | 98 => ⟨S_, .f32⟩
  | 99 => ⟨S8x2048x256, .f32⟩
  | 100 => ⟨S8x2048x10752, .f32⟩
  | 101 => ⟨S16384x10752, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_8 : Ref sig .tc := ⟨.hbm, 95, rfl⟩
abbrev main_v79 : Ref sig .tc := ⟨.hbm, 96, rfl⟩
abbrev main_v80 : Ref sig .tc := ⟨.hbm, 97, rfl⟩
abbrev main_cst_9 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_11 : Ref sig .tc := ⟨.hbm, 112, rfl⟩
abbrev main_v93 : Ref sig .tc := ⟨.hbm, 113, rfl⟩
abbrev main_v94 : Ref sig .tc := ⟨.hbm, 114, rfl⟩
abbrev main_cst_12 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_13 : Ref sig .tc := ⟨.hbm, 148, rfl⟩
abbrev main_v127 : Ref sig .tc := ⟨.hbm, 149, rfl⟩
abbrev main_v128 : Ref sig .tc := ⟨.hbm, 150, rfl⟩
abbrev main_cst_14 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_cst_15 : Ref sig .tc := ⟨.hbm, 184, rfl⟩
abbrev main_v161 : Ref sig .tc := ⟨.hbm, 185, rfl⟩
abbrev main_v162 : Ref sig .tc := ⟨.hbm, 186, rfl⟩
abbrev main_cst_16 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_cst_17 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_cst_18 : Ref sig .tc := ⟨.hbm, 224, rfl⟩
abbrev main_v198 : Ref sig .tc := ⟨.hbm, 225, rfl⟩
abbrev main_cst_19 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩

abbrev nD : Nat := 1
abbrev τ : Topo := Topo.v7x

variable {F : FTy → Type} [FloatOps F]
-- ==== Kernel3.lean ====
abbrev S16384x2048 : Shape := ⟨2, ![16384, 2048]⟩
abbrev S16384x10752 : Shape := ⟨2, ![16384, 10752]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x10752, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x2048 : Shape := ⟨2, ![16384, 2048]⟩
abbrev S16384x10752 : Shape := ⟨2, ![16384, 10752]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x10752, .f32⟩
  | .hbm, ⟨2, _⟩ => ⟨S16384x2048, .f32⟩
  | .hbm, ⟨3, _⟩ => ⟨S2048x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel4.lean ====
abbrev S8x2048x2048 : Shape := ⟨3, ![8, 2048, 2048]⟩
abbrev S16384x2048 : Shape := ⟨2, ![16384, 2048]⟩
abbrev S8x1x2048 : Shape := ⟨3, ![8, 1, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S16384x2048, .bf16⟩
  | .hbm, ⟨2, _⟩ => ⟨S8x1x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x2048x2048 : Shape := ⟨3, ![8, 2048, 2048]⟩
abbrev S16384x2048 : Shape := ⟨2, ![16384, 2048]⟩
abbrev S8x1x2048 : Shape := ⟨3, ![8, 1, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16384x2048, .bf16⟩
  | .hbm, ⟨2, _⟩ => ⟨S8x1x2048, .f32⟩
  | .hbm, ⟨3, _⟩ => ⟨S2048x2048, .f32⟩
  | .hbm, ⟨4, _⟩ => ⟨S16384x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S8x2048x2048 : Shape := ⟨3, ![8, 2048, 2048]⟩
abbrev S8x1x2048 : Shape := ⟨3, ![8, 1, 2048]⟩
abbrev S2048 : Shape := ⟨1, ![2048]⟩
abbrev S2048x2048 : Shape := ⟨2, ![2048, 2048]⟩
abbrev S8x2x128x128 : Shape := ⟨4, ![8, 2, 128, 128]⟩
abbrev S16x128x128 : Shape := ⟨3, ![16, 128, 128]⟩
abbrev S16384x2048 : Shape := ⟨2, ![16384, 2048]⟩
abbrev S1x2048 : Shape := ⟨2, ![1, 2048]⟩
abbrev S128x128 : Shape := ⟨2, ![128, 128]⟩
abbrev S_ : Shape := ⟨0, ![]⟩
abbrev S2048x16384 : Shape := ⟨2, ![2048, 16384]⟩
abbrev S1024x2048 : Shape := ⟨2, ![1024, 2048]⟩
abbrev S1x1x2048 : Shape := ⟨3, ![1, 1, 2048]⟩
abbrev S2048x512 : Shape := ⟨2, ![2048, 512]⟩
abbrev S4x128x128 : Shape := ⟨3, ![4, 128, 128]⟩
abbrev S512x1024 : Shape := ⟨2, ![512, 1024]⟩
abbrev S2048x1024 : Shape := ⟨2, ![2048, 1024]⟩
abbrev S1024 : Shape := ⟨1, ![1024]⟩
abbrev S1024x1 : Shape := ⟨2, ![1024, 1]⟩
abbrev S1024x128 : Shape := ⟨2, ![1024, 128]⟩
abbrev S128x1024 : Shape := ⟨2, ![128, 1024]⟩
abbrev S1024x512 : Shape := ⟨2, ![1024, 512]⟩
abbrev S1x128x128 : Shape := ⟨3, ![1, 128, 128]⟩

abbrev nBuf : Space → Nat
  | .hbm => 20
  | .vmem => 17
  | .smem => 0
  | _ => 0

abbrev bufTy : (tb : Table) → Fin (tcTables nBuf tb) → BufTy
  | .hbm, ⟨0, _⟩ => ⟨S8x2048x2048, .f32⟩
  | .hbm, ⟨1, _⟩ => ⟨S8x1x2048, .f32⟩
  | .hbm, ⟨2, _⟩ => ⟨S8x1x2048, .f32⟩
  | .hbm, ⟨3, _⟩ => ⟨S2048, .f32⟩
  | .hbm, ⟨4, _⟩ => ⟨S2048x2048, .f32⟩
  | .hbm, ⟨5, _⟩ => ⟨S8x2x128x128, .f32⟩
  | .hbm, ⟨6, _⟩ => ⟨S16x128x128, .f32⟩
  | .hbm, ⟨7, _⟩ => ⟨S16x128x128, .bf16⟩
  | .hbm, ⟨8, _⟩ => ⟨S16384x2048, .f32⟩
  | .hbm, ⟨9, _⟩ => ⟨S2048x2048, .bf16⟩
  | .hbm, ⟨10, _⟩ => ⟨S1x2048, .f32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x128, .bf16⟩
  | .hbm, ⟨18, _⟩ => ⟨S2048x16384, .f32⟩
  | .hbm, ⟨19, _⟩ => ⟨S2048x16384, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S4x128x128, .bf16⟩
  | .local _ .vmem, ⟨10, _⟩ => ⟨S4x128x128, .bf16⟩
  | .local _ .vmem, ⟨11, _⟩ => ⟨S128x128, .bf16⟩
  | .local _ .vmem, ⟨12, _⟩ => ⟨S512x1024, .f32⟩
  | .local _ .vmem, ⟨13, _⟩ => ⟨S512x1024, .f32⟩
  | .local _ .vmem, ⟨14, _⟩ => ⟨S2048x1024, .bf16⟩
  | .local _ .vmem, ⟨15, _⟩ => ⟨S2048x1024, .bf16⟩
  | .local _ .vmem, ⟨16, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S8x2048x2048 : Shape := ⟨3, ![8, 2048, 2048]⟩
abbrev S8x1x2048 : Shape := ⟨3, ![8, 1, 2048]⟩
abbrev S2048 : Shape := ⟨1, ![2048]⟩
abbrev S2048x2048 : Shape := ⟨2, ![2048, 2048]⟩
abbrev S8x2x128x128 : Shape := ⟨4, ![8, 2, 128, 128]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S2048x16384 : Shape := ⟨2, ![2048, 16384]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x1x2048, .f32⟩
  | .hbm, ⟨2, _⟩ => ⟨S8x1x2048, .f32⟩
  | .hbm, ⟨3, _⟩ => ⟨S2048, .f32⟩
  | .hbm, ⟨4, _⟩ => ⟨S2048x2048, .f32⟩
  | .hbm, ⟨5, _⟩ => ⟨S8x2x128x128, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S16384x2048, .f32⟩
  | .hbm, ⟨30, _⟩ => ⟨S16384x2048, .f32⟩
  | .hbm, ⟨31, _⟩ => ⟨S16384x8x2x128, .f32⟩
  | .hbm, ⟨32, _⟩ => ⟨S8x2x128x16384, .f32⟩
  | .hbm, ⟨33, _⟩ => ⟨S16384x8x2x128, .f32⟩
  | .hbm, ⟨34, _⟩ => ⟨S16384x2048, .f32⟩
  | .hbm, ⟨35, _⟩ => ⟨S2048x16384, .f32⟩
  | .hbm, ⟨36, _⟩ => ⟨S2048x16384, .f32⟩
  | .hbm, ⟨37, _⟩ => ⟨S2048x16384, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel6.lean ====
abbrev S16384x2048 : Shape := ⟨2, ![16384, 2048]⟩
abbrev S2048x16384 : Shape := ⟨2, ![2048, 16384]⟩
abbrev S8x1x2048 : Shape := ⟨3, ![8, 1, 2048]⟩
abbrev S2048x256 : Shape := ⟨2, ![2048, 256]⟩
abbrev S256x2048 : Shape := ⟨2, ![256, 2048]⟩
abbrev S1x1x2048 : Shape := ⟨3, ![1, 1, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S8x1x2048, .f32⟩
  | .hbm, ⟨3, _⟩ => ⟨S16384x2048, .f32⟩
  | .local _ .vmem, ⟨0, _⟩ => ⟨S2048x256, .f32⟩
  | .local _ .vmem, ⟨1, _⟩ => ⟨S2048x256, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x2048 : Shape := ⟨2, ![16384, 2048]⟩
abbrev S2048x16384 : Shape := ⟨2, ![2048, 16384]⟩
abbrev S8x1x2048 : Shape := ⟨3, ![8, 1, 2048]⟩
abbrev S8x2048x2048 : Shape := ⟨3, ![8, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S8x1x2048, .f32⟩
  | .hbm, ⟨3, _⟩ => ⟨S16384x2048, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8x2048 : Shape := ⟨2, ![8, 2048]⟩
abbrev S128x2048 : Shape := ⟨2, ![128, 2048]⟩
abbrev S2048x12288 : Shape := ⟨2, ![2048, 12288]⟩
abbrev S12288 : Shape := ⟨1, ![12288]⟩
abbrev S136x2048 : Shape := ⟨2, ![136, 2048]⟩
abbrev S1x12288 : Shape := ⟨2, ![1, 12288]⟩
abbrev S136x12288 : Shape := ⟨2, ![136, 12288]⟩
abbrev S2048x1024 : Shape := ⟨2, ![2048, 1024]⟩
abbrev S1x1024 : Shape := ⟨2, ![1, 1024]⟩
abbrev S136x1024 : Shape := ⟨2, ![136, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S128x2048, .f32⟩
  | .hbm, ⟨2, _⟩ => ⟨S2048x12288, .f32⟩
  | .hbm, ⟨3, _⟩ => ⟨S12288, .f32⟩
  | .hbm, ⟨4, _⟩ => ⟨S136x2048, .f32⟩
  | .hbm, ⟨5, _⟩ => ⟨S1x12288, .f32⟩
  | .hbm, ⟨6, _⟩ => ⟨S136x12288, .f32⟩
  | .local _ .vmem, ⟨0, _⟩ => ⟨S136x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x2048 : Shape := ⟨2, ![8, 2048]⟩
abbrev S128x2048 : Shape := ⟨2, ![128, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩
abbrev S128x12288 : Shape := ⟨2, ![128, 12288]⟩
abbrev S136x12288 : Shape := ⟨2, ![136, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S128x2048, .f32⟩
  | .hbm, ⟨2, _⟩ => ⟨S2048x12288, .f32⟩
  | .hbm, ⟨3, _⟩ => ⟨S12288, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x12288, .f32⟩
  | .hbm, ⟨14, _⟩ => ⟨S1x12288, .f32⟩
  | .hbm, ⟨15, _⟩ => ⟨S8x12288, .f32⟩
  | .hbm, ⟨16, _⟩ => ⟨S8x12288, .f32⟩
  | .hbm, ⟨17, _⟩ => ⟨S128x2048, .f32⟩
  | .hbm, ⟨18, _⟩ => ⟨S128x2048, .f32⟩
  | .hbm, ⟨19, _⟩ => ⟨S_, .f32⟩
  | .hbm, ⟨20, _⟩ => ⟨S128x2048, .f32⟩
  | .hbm, ⟨21, _⟩ => ⟨S128x2048, .f32⟩
  | .hbm, ⟨22, _⟩ => ⟨S_, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x12288, .f32⟩
  | .hbm, ⟨27, _⟩ => ⟨S1x12288, .f32⟩
  | .hbm, ⟨28, _⟩ => ⟨S128x12288, .f32⟩
  | .hbm, ⟨29, _⟩ => ⟨S128x12288, .f32⟩
  | .hbm, ⟨30, _⟩ => ⟨S136x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.ScoresSpec.lean ====
/-
  The indexer's scores of a sequence as one formula: the key at a position comes from the page the page table names, then from
  the sequence's new tokens, then is zero; a score is the weighted sum over the heads of the positive part of a dot product.
-/
module

public import Idealize.ShloMosaic.Lib.Pointwise

@[expose] public section

noncomputable section

namespace Cert.Scores

open Idealize.ShloMosaic

/-- The array shapes of the problem: queries, head weights, new keys, the pool of pages, the page table. -/
abbrev Q : Shape := ⟨4, ![128, 4, 16, 128]⟩
abbrev W : Shape := ⟨3, ![128, 4, 16]⟩
abbrev N : Shape := ⟨3, ![128, 4, 128]⟩
abbrev P : Shape := ⟨3, ![2560, 128, 128]⟩
abbrev T : Shape := ⟨2, ![128, 16]⟩

/-- The page of the pool that a table word names (the word read as a natural number). -/
def pageIx (v : BitVec 32) : Fin 2560 := ⟨min v.toNat 2559, by omega⟩

/-- Element `d` of the key of sequence `b` at position `s`. -/
def key (kn : N.Idx → EReal) (pool : P.Idx → EReal) (tb : T.Idx → BitVec 32) (b : Fin 128) (s : Fin 2176) (d : Fin 128) : EReal :=
  if h : s.val < 2048 then pool (ix3 (pageIx (tb (ix2 b ⟨s.val / 128, by omega⟩))) ⟨s.val % 128, by omega⟩ d)
  else if h' : s.val - 2048 < 4 then kn (ix3 b ⟨s.val - 2048, h'⟩ d) else 0

/-- The score of position `s` for query token `t` of sequence `b`. -/
def score (q : Q.Idx → EReal) (w : W.Idx → EReal) (kn : N.Idx → EReal) (pool : P.Idx → EReal) (tb : T.Idx → BitVec 32)
    (b : Fin 128) (t : Fin 4) (s : Fin 2176) : EReal :=
  ∑ h : Fin 16, w (ix3 b t h) * max (∑ d : Fin 128, q (ix4 b t h d) * key kn pool tb b s d) 0

/-- Behind the last token every score is zero. -/
theorem score_tail (q : Q.Idx → EReal) (w : W.Idx → EReal) (kn : N.Idx → EReal) (pool : P.Idx → EReal) (tb : T.Idx → BitVec 32)
    (b : Fin 128) (t : Fin 4) (s : Fin 2176) (hs : 2052 ≤ s.val) : score q w kn pool tb b t s = 0 := by
  unfold score
  refine Finset.sum_eq_zero fun h _ => ?_
  have hk : ∀ d, key kn pool tb b s d = 0 := fun d => by
    unfold key; rw [dif_neg (by omega), dif_neg (by omega)]
  simp only [hk, mul_zero, Finset.sum_const_zero, max_self]

end Cert.Scores

end
-- ==== Proof.ScoresPay.lean ====
/-
  One grid step of the indexer's scores, read at an index: the block stored for a page of keys and the block stored for
  the new keys are, entry by entry, the score of one key for one query token.
-/
module

public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem

/-- The score of one key `k` for query token `t`: over the sixteen index heads, the head's weight times the
    positive part of the head's inner product with the key. -/
def tokenScore (q : Vec Ideal S1x64x128 .f32) (w : Vec Ideal S1x64x1 .f32) (k : Fin 128 → EReal) (t : Fin 4) : EReal :=
  ∑ h : Fin 16, w (ix3 0 ⟨16 * t.val + h.val, by omega⟩ 0)
    * max (∑ d : Fin 128, q (ix3 0 ⟨16 * t.val + h.val, by omega⟩ d) * k d) 0

/-- What the body stores for one page, read at a token and a key of the page. -/
theorem pay5_apply (q : Vec Ideal S1x64x128 .f32) (w : Vec Ideal S1x64x1 .f32) (k : Vec Ideal S1x128x128 .f32)
    (t : Fin 4) (l : Fin 128) :
    k0_pay5 q w k (ix3 0 t l) = tokenScore q w (fun d => k (ix3 0 l d)) t := by
  fin_cases t
  all_goals
    pointwise [k0_pay5, k0_pay3, k0_pay4, tokenScore]

/-- What it stores for the new keys: eight rows of the padded array, then rows of zeros. -/
theorem pay2_apply (q : Vec Ideal S1x64x128 .f32) (w : Vec Ideal S1x64x1 .f32) (k : Vec Ideal S1x8x128 .f32)
    (t : Fin 4) (l : Fin 128) :
    k0_pay2 (k0_pay3 q) (k0_pay4 w) k (ix3 0 t l)
      = tokenScore q w (fun d => if h : l.val < 8 then k (ix3 0 ⟨l.val, h⟩ d) else 0) t := by
  fin_cases t
  all_goals
    pointwise [k0_pay2, k0_pay3, k0_pay4, tokenScore]

end Cert.KernelIdeal.Val
end
-- ==== Proof.ScoresBody.lean ====
/-
  One grid step of the indexer's scores as a whole: the seventeen blocks the body stores side by side are the scores of the
  2048 past keys (sixteen pages of 128) and of the 128 padded new keys, as one function of the position.
-/
module

public import proofs.«01_k».proof.Proof.ScoresPay
public import proofs.«01_k».proof.Proof.Gen.KernelIdeal.Frame
public import Idealize.ShloMosaic.Lib.Pipeline.Value

@[expose] public section

set_option maxRecDepth 16384

noncomputable section

namespace Cert.KernelIdeal.Val

open Cert.KernelIdeal Cert.KernelIdeal.Gen Idealize.ShloMosaic Idealize.ShloMosaic.TcCoe Idealize.SL.Sem

/-- The key at position `s` of a sequence: from page `s / 128` while `s` is below 2048, then the new keys, then zeros. -/
def keyAt (kn : Vec Ideal S1x8x128 .f32) (pages : Fin 16 → Vec Ideal S1x128x128 .f32) (s : Fin 2176) (d : Fin 128) : EReal :=
  if h : s.val < 2048 then pages ⟨s.val / 128, by omega⟩ (ix3 0 ⟨s.val % 128, by omega⟩ d)
  else if h' : s.val - 2048 < 8 then kn (ix3 0 ⟨s.val - 2048, h'⟩ d) else 0

/-- The scores of all positions for the four query tokens. -/
def scoreBlk (q : Vec Ideal S1x64x128 .f32) (w : Vec Ideal S1x64x1 .f32) (kn : Vec Ideal S1x8x128 .f32)
    (pages : Fin 16 → Vec Ideal S1x128x128 .f32) : Vec Ideal S1x4x2176 .f32 :=
  fun y => tokenScore q w (keyAt kn pages (y 2)) (y 1)

theorem scoreBlk_ix3 (q : Vec Ideal S1x64x128 .f32) (w : Vec Ideal S1x64x1 .f32) (kn : Vec Ideal S1x8x128 .f32)
    (pages : Fin 16 → Vec Ideal S1x128x128 .f32) (z : Fin 1) (t : Fin 4) (s : Fin 2176) :
    scoreBlk q w kn pages (ix3 z t s) = tokenScore q w (keyAt kn pages s) t := rfl

/-- The block stored for page `p` is `scoreBlk` on columns `128 p … 128 p + 127`. -/
theorem piece_page (p : Fin 16) (q : Vec Ideal S1x64x128 .f32) (w : Vec Ideal S1x64x1 .f32) (kn : Vec Ideal S1x8x128 .f32)
    (pages : Fin 16 → Vec Ideal S1x128x128 .f32) (pg : Vec Ideal S1x128x128 .f32) (hpg : pages p = pg)
    (P : Vec Ideal S1x4x128 .f32) (hP : P = k0_pay5 q w pg) (off : Fin 3 → Nat) (h : off = ![0, 0, 128 * p.val])
    (inb : ∀ a, off a + S1x4x128.size a ≤ S1x4x2176.size a) (x : S1x4x128.Idx) :
    P x = scoreBlk q w kn pages ((Rect.unit (s := S1x4x2176) off S1x4x128.size inb).emb x) := by
  subst h hP hpg
  idx_vars x
  obtain rfl : x0 = 0 := Subsingleton.elim _ _
  rw [pay5_apply]
  have e : (Rect.unit (s := S1x4x2176) ![0, 0, 128 * p.val] S1x4x128.size inb).emb (ix3 0 x1 x2)
      = ix3 0 x1 ⟨128 * p.val + x2.val, by omega⟩ := funext fun a => Fin.ext (by
    match a with
    | ⟨0, _⟩ => rfl
    | ⟨1, _⟩ => show 0 + 1 * x1.val = x1.val; omega
    | ⟨2, _⟩ => show 128 * p.val + 1 * x2.val = 128 * p.val + x2.val; omega)
  refine Eq.trans ?_ (congrArg _ e.symm)
  rw [scoreBlk_ix3]
  congr 1
  funext d
  unfold keyAt
  rw [dif_pos (show 128 * p.val + x2.val < 2048 by omega)]
  have e1 : (⟨(128 * p.val + x2.val) / 128, by omega⟩ : Fin 16) = p := Fin.ext (by show (128 * p.val + x2.val) / 128 = p.val; omega)
  have e2 : (⟨(128 * p.val + x2.val) % 128, by omega⟩ : Fin 128) = x2 := Fin.ext (by show (128 * p.val + x2.val) % 128 = x2.val; omega)
  simp only [e1, e2]

/-- The block stored for the new keys is `scoreBlk` on columns 2048 … 2175. -/
theorem piece_new (q : Vec Ideal S1x64x128 .f32) (w : Vec Ideal S1x64x1 .f32) (kn : Vec Ideal S1x8x128 .f32)
    (pages : Fin 16 → Vec Ideal S1x128x128 .f32)
    (inb : ∀ a, (![0, 0, 2048] : Fin 3 → Nat) a + S1x4x128.size a ≤ S1x4x2176.size a) (x : S1x4x128.Idx) :
    k0_pay2 (k0_pay3 q) (k0_pay4 w) kn x
      = scoreBlk q w kn pages ((Rect.unit (s := S1x4x2176) ![0, 0, 2048] S1x4x128.size inb).emb x) := by
  idx_vars x
  obtain rfl : x0 = 0 := Subsingleton.elim _ _
  rw [pay2_apply]
  have e : (Rect.unit (s := S1x4x2176) ![0, 0, 2048] S1x4x128.size inb).emb (ix3 0 x1 x2)
      = ix3 0 x1 ⟨2048 + x2.val, by omega⟩ := funext fun a => Fin.ext (by
    match a with
    | ⟨0, _⟩ => rfl
    | ⟨1, _⟩ => show 0 + 1 * x1.val = x1.val; omega
    | ⟨2, _⟩ => show 2048 + 1 * x2.val = 2048 + x2.val; omega)
  refine Eq.trans ?_ (congrArg _ e.symm)
  rw [scoreBlk_ix3]
  congr 1
  funext d
  unfold keyAt
  rw [dif_neg (show ¬ 2048 + x2.val < 2048 by omega)]
  have e1 : 2048 + x2.val - 2048 = x2.val := by omega
  simp only [e1]

theorem hz3 : (![0, 0, 0] : Fin 3 → Nat) = fun _ => 0 := funext fun a => by fin_cases a <;> rfl

set_option maxHeartbeats 4000000 in
/-- What the body leaves in the output's staging buffer, from the blocks it was given. -/
theorem out_eq  (c : Dev nD) (i : grid0.Coords) (arg2 : Memref sig .tc .vmem S1x64x128 .f32) (harg2 : arg2.IsWhole) (arg3 : Memref sig .tc .vmem S1x64x1 .f32) (harg3 : arg3.IsWhole) (arg4 : Memref sig .tc .vmem S1x8x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x4x2176 .f32) (harg21 : arg21.IsWhole)
    (x0 : Vec Ideal S1x64x128 .f32) (x1 : Vec Ideal S1x64x1 .f32) (x2 : Vec Ideal S1x8x128 .f32) (x3 : Vec Ideal S1x128x128 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (xt0 : TbBuf0 (F := Ideal) c tbM0_0)  :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 xt0
      = scoreBlk x0 x1 x2 ![x3, x4, x5, x6, x7, x8, x9, x10, x11, x12, x13, x14, x15, x16, x17, x18] := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 xt0)]
  funext y
  refine View.canon_apply_of_pieces (scoreBlk x0 x1 x2 ![x3, x4, x5, x6, x7, x8, x9, x10, x11, x12, x13, x14, x15, x16, x17, x18]) _ ?_ y (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 xt0 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x64x128) hz3,
    View.ld_unit_zero (S := S1x64x1) hz3, View.ld_unit_zero (S := S1x8x128) hz3, View.ld_unit_zero (S := S1x128x128) hz3]
  refine List.forall_mem_cons.2 ⟨fun x => piece_new x0 x1 x2 ![x3, x4, x5, x6, x7, x8, x9, x10, x11, x12, x13, x14, x15, x16, x17, x18] inb_S1x4x2176_S1x4x128_0_0_2048 x, ?_⟩
  refine List.forall_mem_cons.2 ⟨fun x => piece_page 15 x0 x1 x2 ![x3, x4, x5, x6, x7, x8, x9, x10, x11, x12, x13, x14, x15, x16, x17, x18] x18 rfl _ (by rfl) ![0, 0, 1920] rfl inb_S1x4x2176_S1x4x128_0_0_1920 x, ?_⟩
  refine List.forall_mem_cons.2 ⟨fun x => piece_page 14 x0 x1 x2 ![x3, x4, x5, x6, x7, x8, x9, x10, x11, x12, x13, x14, x15, x16, x17, x18] x17 rfl _ (by rfl) ![0, 0, 1792] rfl inb_S1x4x2176_S1x4x128_0_0_1792 x, ?_⟩
  refine List.forall_mem_cons.2 ⟨fun x => piece_page 13 x0 x1 x2 ![x3, x4, x5, x6, x7, x8, x9, x10, x11, x12, x13, x14, x15, x16, x17, x18] x16 rfl _ (by rfl) ![0, 0, 1664] rfl inb_S1x4x2176_S1x4x128_0_0_1664 x, ?_⟩
  refine List.forall_mem_cons.2 ⟨fun x => piece_page 12 x0 x1 x2 ![x3, x4, x5, x6, x7, x8, x9, x10, x11, x12, x13, x14, x15, x16, x17, x18] x15 rfl _ (by rfl) ![0, 0, 1536] rfl inb_S1x4x2176_S1x4x128_0_0_1536 x, ?_⟩
  refine List.forall_mem_cons.2 ⟨fun x => piece_page 11 x0 x1 x2 ![x3, x4, x5, x6, x7, x8, x9, x10, x11, x12, x13, x14, x15, x16, x17, x18] x14 rfl _ (by rfl) ![0, 0, 1408] rfl inb_S1x4x2176_S1x4x128_0_0_1408 x, ?_⟩
  refine List.forall_mem_cons.2 ⟨fun x => piece_page 10 x0 x1 x2 ![x3, x4, x5, x6, x7, x8, x9, x10, x11, x12, x13, x14, x15, x16, x17, x18] x13 rfl _ (by rfl) ![0, 0, 1280] rfl inb_S1x4x2176_S1x4x128_0_0_1280 x, ?_⟩
  refine List.forall_mem_cons.2 ⟨fun x => piece_page 9 x0 x1 x2 ![x3, x4, x5, x6, x7, x8, x9, x10, x11, x12, x13, x14, x15, x16, x17, x18] x12 rfl _ (by rfl) ![0, 0, 1152] rfl inb_S1x4x2176_S1x4x128_0_0_1152 x, ?_⟩
  refine List.forall_mem_cons.2 ⟨fun x => piece_page 8 x0 x1 x2 ![x3, x4, x5, x6, x7, x8, x9, x10, x11, x12, x13, x14, x15, x16, x17, x18] x11 rfl _ (by rfl) ![0, 0, 1024] rfl inb_S1x4x2176_S1x4x128_0_0_1024 x, ?_⟩
  refine List.forall_mem_cons.2 ⟨fun x => piece_page 7 x0 x1 x2 ![x3, x4, x5, x6, x7, x8, x9, x10, x11, x12, x13, x14, x15, x16, x17, x18] x10 rfl _ (by rfl) ![0, 0, 896] rfl inb_S1x4x2176_S1x4x128_0_0_896 x, ?_⟩
  refine List.forall_mem_cons.2 ⟨fun x => piece_page 6 x0 x1 x2 ![x3, x4, x5, x6, x7, x8, x9, x10, x11, x12, x13, x14, x15, x16, x17, x18] x9 rfl _ (by rfl) ![0, 0, 768] rfl inb_S1x4x2176_S1x4x128_0_0_768 x, ?_⟩
  refine List.forall_mem_cons.2 ⟨fun x => piece_page 5 x0 x1 x2 ![x3, x4, x5, x6, x7, x8, x9, x10, x11, x12, x13, x14, x15, x16, x17, x18] x8 rfl _ (by rfl) ![0, 0, 640] rfl inb_S1x4x2176_S1x4x128_0_0_640 x, ?_⟩
  refine List.forall_mem_cons.2 ⟨fun x => piece_page 4 x0 x1 x2 ![x3, x4, x5, x6, x7, x8, x9, x10, x11, x12, x13, x14, x15, x16, x17, x18] x7 rfl _ (by rfl) ![0, 0, 512] rfl inb_S1x4x2176_S1x4x128_0_0_512 x, ?_⟩
  refine List.forall_mem_cons.2 ⟨fun x => piece_page 3 x0 x1 x2 ![x3, x4, x5, x6, x7, x8, x9, x10, x11, x12, x13, x14, x15, x16, x17, x18] x6 rfl _ (by rfl) ![0, 0, 384] rfl inb_S1x4x2176_S1x4x128_0_0_384 x, ?_⟩
  refine List.forall_mem_cons.2 ⟨fun x => piece_page 2 x0 x1 x2 ![x3, x4, x5, x6, x7, x8, x9, x10, x11, x12, x13, x14, x15, x16, x17, x18] x5 rfl _ (by rfl) ![0, 0, 256] rfl inb_S1x4x2176_S1x4x128_0_0_256 x, ?_⟩
  refine List.forall_mem_cons.2 ⟨fun x => piece_page 1 x0 x1 x2 ![x3, x4, x5, x6, x7, x8, x9, x10, x11, x12, x13, x14, x15, x16, x17, x18] x4 rfl _ (by rfl) ![0, 0, 128] rfl inb_S1x4x2176_S1x4x128_0_0_128 x, ?_⟩
  refine List.forall_mem_cons.2 ⟨fun x => piece_page 0 x0 x1 x2 ![x3, x4, x5, x6, x7, x8, x9, x10, x11, x12, x13, x14, x15, x16, x17, x18] x3 rfl _ (by rfl) ![0, 0, 0] rfl inb_S1x4x2176_S1x4x128_0_0_0 x, ?_⟩
  exact fun p hp => absurd hp List.not_mem_nil

end Cert.KernelIdeal.Val
end
-- ==== Proof.PagesIdeal.lean ====
/-
  The page table of `KernelIdeal` as the index maps of its sixteen page windows read it, and the side condition the launch asks of
  the table (every named page lies in the pool), from the precondition that every entry is a page number of the pool.
-/
module

public import proofs.«01_k».proof.Defs
public import proofs.«01_k».proof.Proof.Gen.KernelIdeal.Frame
public import proofs.«01_k».proof.Proof.Gen.Pre_pages_in_pool
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- The page that the table `pf` names for sequence `b` at place `p`. -/
abbrev pageOf (pf : pre0.Contents (Elt F)) (b : Fin 128) (p : Fin 16) : BitVec 32 := pf 0 (ix2 b p)

/-- The one-element read of the table at row `i`, column `p`. -/
theorem at_eq (pf : pre0.Contents (Elt F)) (b : Fin 128) (p : Fin 16) (off : Fin 2 → Nat)
    (hoff : off = ![b.val, p.val]) (h : ∀ a, off a + S1x1.size a ≤ S128x16.size a) (h1 : S1x1.numel = 1) :
    pf.at 0 (Rect.unit (s := S128x16) off S1x1.size h) h1 = pageOf pf b p := by
  subst hoff
  refine congrArg (pf 0) (funext fun a => Fin.ext ?_)
  match a with
  | ⟨0, _⟩ =>
    have : ((Shape.Idx.first (s := S1x1) (h1.symm ▸ Nat.one_pos)) 0).val < 1 := Fin.isLt _
    show b.val + 1 * ((Shape.Idx.first (s := S1x1) (h1.symm ▸ Nat.one_pos)) 0).val = b.val
    omega
  | ⟨1, _⟩ =>
    have : ((Shape.Idx.first (s := S1x1) (h1.symm ▸ Nat.one_pos)) 1).val < 1 := Fin.isLt _
    show p.val + 1 * ((Shape.Idx.first (s := S1x1) (h1.symm ▸ Nat.one_pos)) 1).val = p.val
    omega

/-- A grid coordinate survives the passage through a 32-bit word. -/
theorem coord_word (i : grid0.Coords) : (BitVec.ofNat 32 (i 0).val).toNat = (i 0).val := by
  have : (i 0).val < 128 := (i 0).isLt
  rw [BitVec.toNat_ofNat]; omega

theorem map_0 (h : ∀ i : grid0.Coords, ∀ a, (k0_off1 i) a + S1x1.size a ≤ S128x16.size a) (h1 : S1x1.numel = 1)
    (pf : pre0.Contents (Elt F)) (i : grid0.Coords) :
    cc0_transform_3 h h1 pf i = ![(pageOf pf (i 0) 0).toNat, 0, 0] := by
  exact congrArg (fun w : BitVec 32 => (![w.toNat, 0, 0] : Fin 3 → Nat)) (at_eq pf (i 0) 0 (k0_off1 i)
    (by show ![(BitVec.ofNat 32 (i 0).val).toNat, _] = _; rw [coord_word]; rfl) (h i) h1)

theorem map_1 (h : ∀ i : grid0.Coords, ∀ a, (k0_off2 i) a + S1x1.size a ≤ S128x16.size a) (h1 : S1x1.numel = 1)
    (pf : pre0.Contents (Elt F)) (i : grid0.Coords) :
    cc0_transform_4 h h1 pf i = ![(pageOf pf (i 0) 1).toNat, 0, 0] := by
  exact congrArg (fun w : BitVec 32 => (![w.toNat, 0, 0] : Fin 3 → Nat)) (at_eq pf (i 0) 1 (k0_off2 i)
    (by show ![(BitVec.ofNat 32 (i 0).val).toNat, _] = _; rw [coord_word]; rfl) (h i) h1)

theorem map_2 (h : ∀ i : grid0.Coords, ∀ a, (k0_off3 i) a + S1x1.size a ≤ S128x16.size a) (h1 : S1x1.numel = 1)
    (pf : pre0.Contents (Elt F)) (i : grid0.Coords) :
    cc0_transform_5 h h1 pf i = ![(pageOf pf (i 0) 2).toNat, 0, 0] := by
  exact congrArg (fun w : BitVec 32 => (![w.toNat, 0, 0] : Fin 3 → Nat)) (at_eq pf (i 0) 2 (k0_off3 i)
    (by show ![(BitVec.ofNat 32 (i 0).val).toNat, _] = _; rw [coord_word]; rfl) (h i) h1)

theorem map_3 (h : ∀ i : grid0.Coords, ∀ a, (k0_off4 i) a + S1x1.size a ≤ S128x16.size a) (h1 : S1x1.numel = 1)
    (pf : pre0.Contents (Elt F)) (i : grid0.Coords) :
    cc0_transform_6 h h1 pf i = ![(pageOf pf (i 0) 3).toNat, 0, 0] := by
  exact congrArg (fun w : BitVec 32 => (![w.toNat, 0, 0] : Fin 3 → Nat)) (at_eq pf (i 0) 3 (k0_off4 i)
    (by show ![(BitVec.ofNat 32 (i 0).val).toNat, _] = _; rw [coord_word]; rfl) (h i) h1)

theorem map_4 (h : ∀ i : grid0.Coords, ∀ a, (k0_off5 i) a + S1x1.size a ≤ S128x16.size a) (h1 : S1x1.numel = 1)
    (pf : pre0.Contents (Elt F)) (i : grid0.Coords) :
    cc0_transform_7 h h1 pf i = ![(pageOf pf (i 0) 4).toNat, 0, 0] := by
  exact congrArg (fun w : BitVec 32 => (![w.toNat, 0, 0] : Fin 3 → Nat)) (at_eq pf (i 0) 4 (k0_off5 i)
    (by show ![(BitVec.ofNat 32 (i 0).val).toNat, _] = _; rw [coord_word]; rfl) (h i) h1)

theorem map_5 (h : ∀ i : grid0.Coords, ∀ a, (k0_off6 i) a + S1x1.size a ≤ S128x16.size a) (h1 : S1x1.numel = 1)
    (pf : pre0.Contents (Elt F)) (i : grid0.Coords) :
    cc0_transform_8 h h1 pf i = ![(pageOf pf (i 0) 5).toNat, 0, 0] := by
  exact congrArg (fun w : BitVec 32 => (![w.toNat, 0, 0] : Fin 3 → Nat)) (at_eq pf (i 0) 5 (k0_off6 i)
    (by show ![(BitVec.ofNat 32 (i 0).val).toNat, _] = _; rw [coord_word]; rfl) (h i) h1)

theorem map_6 (h : ∀ i : grid0.Coords, ∀ a, (k0_off7 i) a + S1x1.size a ≤ S128x16.size a) (h1 : S1x1.numel = 1)
    (pf : pre0.Contents (Elt F)) (i : grid0.Coords) :
    cc0_transform_9 h h1 pf i = ![(pageOf pf (i 0) 6).toNat, 0, 0] := by
  exact congrArg (fun w : BitVec 32 => (![w.toNat, 0, 0] : Fin 3 → Nat)) (at_eq pf (i 0) 6 (k0_off7 i)
    (by show ![(BitVec.ofNat 32 (i 0).val).toNat, _] = _; rw [coord_word]; rfl) (h i) h1)

theorem map_7 (h : ∀ i : grid0.Coords, ∀ a, (k0_off8 i) a + S1x1.size a ≤ S128x16.size a) (h1 : S1x1.numel = 1)
    (pf : pre0.Contents (Elt F)) (i : grid0.Coords) :
    cc0_transform_10 h h1 pf i = ![(pageOf pf (i 0) 7).toNat, 0, 0] := by
  exact congrArg (fun w : BitVec 32 => (![w.toNat, 0, 0] : Fin 3 → Nat)) (at_eq pf (i 0) 7 (k0_off8 i)
    (by show ![(BitVec.ofNat 32 (i 0).val).toNat, _] = _; rw [coord_word]; rfl) (h i) h1)

theorem map_8 (h : ∀ i : grid0.Coords, ∀ a, (k0_off9 i) a + S1x1.size a ≤ S128x16.size a) (h1 : S1x1.numel = 1)
    (pf : pre0.Contents (Elt F)) (i : grid0.Coords) :
    cc0_transform_11 h h1 pf i = ![(pageOf pf (i 0) 8).toNat, 0, 0] := by
  exact congrArg (fun w : BitVec 32 => (![w.toNat, 0, 0] : Fin 3 → Nat)) (at_eq pf (i 0) 8 (k0_off9 i)
    (by show ![(BitVec.ofNat 32 (i 0).val).toNat, _] = _; rw [coord_word]; rfl) (h i) h1)

theorem map_9 (h : ∀ i : grid0.Coords, ∀ a, (k0_off10 i) a + S1x1.size a ≤ S128x16.size a) (h1 : S1x1.numel = 1)
    (pf : pre0.Contents (Elt F)) (i : grid0.Coords) :
    cc0_transform_12 h h1 pf i = ![(pageOf pf (i 0) 9).toNat, 0, 0] := by
  exact congrArg (fun w : BitVec 32 => (![w.toNat, 0, 0] : Fin 3 → Nat)) (at_eq pf (i 0) 9 (k0_off10 i)
    (by show ![(BitVec.ofNat 32 (i 0).val).toNat, _] = _; rw [coord_word]; rfl) (h i) h1)

theorem map_10 (h : ∀ i : grid0.Coords, ∀ a, (k0_off11 i) a + S1x1.size a ≤ S128x16.size a) (h1 : S1x1.numel = 1)
    (pf : pre0.Contents (Elt F)) (i : grid0.Coords) :
    cc0_transform_13 h h1 pf i = ![(pageOf pf (i 0) 10).toNat, 0, 0] := by
  exact congrArg (fun w : BitVec 32 => (![w.toNat, 0, 0] : Fin 3 → Nat)) (at_eq pf (i 0) 10 (k0_off11 i)
    (by show ![(BitVec.ofNat 32 (i 0).val).toNat, _] = _; rw [coord_word]; rfl) (h i) h1)

theorem map_11 (h : ∀ i : grid0.Coords, ∀ a, (k0_off12 i) a + S1x1.size a ≤ S128x16.size a) (h1 : S1x1.numel = 1)
    (pf : pre0.Contents (Elt F)) (i : grid0.Coords) :
    cc0_transform_14 h h1 pf i = ![(pageOf pf (i 0) 11).toNat, 0, 0] := by
  exact congrArg (fun w : BitVec 32 => (![w.toNat, 0, 0] : Fin 3 → Nat)) (at_eq pf (i 0) 11 (k0_off12 i)
    (by show ![(BitVec.ofNat 32 (i 0).val).toNat, _] = _; rw [coord_word]; rfl) (h i) h1)

theorem map_12 (h : ∀ i : grid0.Coords, ∀ a, (k0_off13 i) a + S1x1.size a ≤ S128x16.size a) (h1 : S1x1.numel = 1)
    (pf : pre0.Contents (Elt F)) (i : grid0.Coords) :
    cc0_transform_15 h h1 pf i = ![(pageOf pf (i 0) 12).toNat, 0, 0] := by
  exact congrArg (fun w : BitVec 32 => (![w.toNat, 0, 0] : Fin 3 → Nat)) (at_eq pf (i 0) 12 (k0_off13 i)
    (by show ![(BitVec.ofNat 32 (i 0).val).toNat, _] = _; rw [coord_word]; rfl) (h i) h1)

theorem map_13 (h : ∀ i : grid0.Coords, ∀ a, (k0_off14 i) a + S1x1.size a ≤ S128x16.size a) (h1 : S1x1.numel = 1)
    (pf : pre0.Contents (Elt F)) (i : grid0.Coords) :
    cc0_transform_16 h h1 pf i = ![(pageOf pf (i 0) 13).toNat, 0, 0] := by
  exact congrArg (fun w : BitVec 32 => (![w.toNat, 0, 0] : Fin 3 → Nat)) (at_eq pf (i 0) 13 (k0_off14 i)
    (by show ![(BitVec.ofNat 32 (i 0).val).toNat, _] = _; rw [coord_word]; rfl) (h i) h1)

theorem map_14 (h : ∀ i : grid0.Coords, ∀ a, (k0_off15 i) a + S1x1.size a ≤ S128x16.size a) (h1 : S1x1.numel = 1)
    (pf : pre0.Contents (Elt F)) (i : grid0.Coords) :
    cc0_transform_17 h h1 pf i = ![(pageOf pf (i 0) 14).toNat, 0, 0] := by
  exact congrArg (fun w : BitVec 32 => (![w.toNat, 0, 0] : Fin 3 → Nat)) (at_eq pf (i 0) 14 (k0_off15 i)
    (by show ![(BitVec.ofNat 32 (i 0).val).toNat, _] = _; rw [coord_word]; rfl) (h i) h1)

theorem map_15 (h : ∀ i : grid0.Coords, ∀ a, (k0_off16 i) a + S1x1.size a ≤ S128x16.size a) (h1 : S1x1.numel = 1)
    (pf : pre0.Contents (Elt F)) (i : grid0.Coords) :
    cc0_transform_18 h h1 pf i = ![(pageOf pf (i 0) 15).toNat, 0, 0] := by
  exact congrArg (fun w : BitVec 32 => (![w.toNat, 0, 0] : Fin 3 → Nat)) (at_eq pf (i 0) 15 (k0_off16 i)
    (by show ![(BitVec.ofNat 32 (i 0).val).toNat, _] = _; rw [coord_word]; rfl) (h i) h1)

/-- A block of one page lies inside the pool when its page number does. -/
theorem inside (f : Fin 3 → Nat) (n : Nat) (hf : f = ![n, 0, 0]) (hn : n < 2560) :
    ∃ h : (∀ a, (f a + 1) * S1x128x128.size a ≤ S2560x128x128.size a),
      EltTy.bits .f32 = 32 ∨ (Rect.block (s := S2560x128x128) S1x128x128.size f h).WholeWords (EltTy.packing .f32) := by
  refine ⟨fun a => ?_, Or.inl rfl⟩
  subst hf
  match a with
  | ⟨0, _⟩ => show (n + 1) * 1 ≤ 2560; omega
  | ⟨1, _⟩ => show (0 + 1) * 128 ≤ 128; omega
  | ⟨2, _⟩ => show (0 + 1) * 128 ≤ 128; omega

/-- The side condition of the launch, from the bound on the table's entries. -/
theorem ok_of_bound (pf : pre0.Contents (Elt F)) (h : ∀ b p, (pageOf pf b p).toNat < 2560) : ok0 pf :=
  ⟨fun i => inside _ _ (map_0 _ _ pf i) (h _ _), fun i => inside _ _ (map_1 _ _ pf i) (h _ _), fun i => inside _ _ (map_2 _ _ pf i) (h _ _), fun i => inside _ _ (map_3 _ _ pf i) (h _ _), fun i => inside _ _ (map_4 _ _ pf i) (h _ _), fun i => inside _ _ (map_5 _ _ pf i) (h _ _), fun i => inside _ _ (map_6 _ _ pf i) (h _ _), fun i => inside _ _ (map_7 _ _ pf i) (h _ _), fun i => inside _ _ (map_8 _ _ pf i) (h _ _), fun i => inside _ _ (map_9 _ _ pf i) (h _ _), fun i => inside _ _ (map_10 _ _ pf i) (h _ _), fun i => inside _ _ (map_11 _ _ pf i) (h _ _), fun i => inside _ _ (map_12 _ _ pf i) (h _ _), fun i => inside _ _ (map_13 _ _ pf i) (h _ _), fun i => inside _ _ (map_14 _ _ pf i) (h _ _), fun i => inside _ _ (map_15 _ _ pf i) (h _ _)⟩

/-- The precondition, decoded: every entry of the table is below 2560. -/
theorem bound_of_pre (a0 : FVec F S128x4x16x128 .f32) (a1 : FVec F S128x4x16 .f32) (a2 : FVec F S128x4x128 .f32)
    (a3 : FVec F S2560x128x128 .f32) (a4 : IVec S128x16 32)
    (h : Cert.Pre_pages_in_pool.fn a0 a1 a2 a3 a4 = fun _ => 1#1) (y : S128x16.Idx) :
    (a4 y).toNat < 2560 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Pre_pages_in_pool.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.KernelIdeal.Val

end
-- ==== Proof.ScoresRun.lean ====
/-
  The run of the indexer's score kernel, read: each grid point's input blocks are rows of the arguments (the page windows through
  the page table), what it writes back is the point's rows of the scores, and the points' blocks tile the result.
-/
module

public import proofs.«01_k».proof.Proof.ScoresSpec
public import proofs.«01_k».proof.Proof.ScoresBody
public import proofs.«01_k».proof.Proof.PagesIdeal

@[expose] public section

set_option maxRecDepth 16384

noncomputable section

namespace Cert.KernelIdeal.Val

open Cert.KernelIdeal Cert.KernelIdeal.Gen Idealize.ShloMosaic Idealize.ShloMosaic.TcCoe Idealize.SL.Sem
open Cert.Scores

variable (m : (ℓ : Loc nD τ sig) → Buf (Elt Ideal) ℓ) (ρ : Dev nD → PrngReg) (hO : Ok m)

/-- The sequence a grid point works on. -/
abbrev seqOf (t : Fin (cfgM m hO).N) : Fin 128 := grid0.coords t 0

/-- The queries as the kernel takes them: tokens and heads joined. -/
theorem V_q (c : Dev nD) : (V m c main_v0 : Vec Ideal S128x64x128 .f32)
    = shapeCast _ (m ((c : Thread nD τ).loc main_arg0)) shapeCasts_S128x4x16x128_S128x64x128 := by
  unfold_abbrev_sides
  simp only [List.flatten_cons, List.flatten_nil, List.append_nil, List.cons_append, List.nil_append]
  after_results <;> rfl

theorem V_w (c : Dev nD) : (V m c main_v1 : Vec Ideal S128x64x1 .f32)
    = shapeCast _ (m ((c : Thread nD τ).loc main_arg1)) shapeCasts_S128x4x16_S128x64x1 := by
  unfold_abbrev_sides
  simp only [List.flatten_cons, List.flatten_nil, List.append_nil, List.cons_append, List.nil_append]
  after_results <;> rfl

theorem V_n (c : Dev nD) : (V m c main_v2 : Vec Ideal S128x8x128 .f32)
    = pad S128x8x128 ![0, 0, 0] ![0, 4, 0] ![0, 0, 0] (m ((c : Thread nD τ).loc main_arg2) : Vec Ideal S128x4x128 .f32)
        (sitofp (F := Ideal) .f32 (constantI S_ 32 0#32) : Vec Ideal S_ .f32) pads_S128x4x128_S128x8x128_000_040_000 h_S_ := by
  unfold_abbrev_sides
  simp only [List.flatten_cons, List.flatten_nil, List.append_nil, List.cons_append, List.nil_append]
  after_results <;> rfl

/-- The place in its array of an element of a row block. -/
theorem row_ix {n1 n2 : Nat} (i0 : grid0.Coords)
    (f : Fin 3 → Nat) (hf : f = ![(BitVec.ofNat 32 (i0 0).val).toNat, 0, 0]) (j : (⟨3, ![1, n1, n2]⟩ : Shape).Idx)
    (i : (⟨3, ![128, n1, n2]⟩ : Shape).Idx)
    (hi : ∀ a, (i a).val = f a * (⟨3, ![1, n1, n2]⟩ : Shape).size a + 1 * (j a).val) :
    i = ix3 (i0 0) (j 1) (j 2) := by
  subst hf
  have h0 : (j 0).val < 1 := (j 0).isLt
  funext a
  refine Fin.ext ((hi a).trans ?_)
  match a with
  | ⟨0, _⟩ => show (BitVec.ofNat 32 (i0 0).val).toNat * 1 + 1 * (j 0).val = (i0 0).val; rw [coord_word]; omega
  | ⟨1, _⟩ => show 0 * n1 + 1 * (j 1).val = (j 1).val; omega
  | ⟨2, _⟩ => show 0 * n2 + 1 * (j 2).val = (j 2).val; omega

theorem blk_0 (c : Dev nD) (t : Fin (cfgM m hO).N) :
    (iblk m hO c 0 t : Vec Ideal S1x64x128 .f32) = fun y : S1x64x128.Idx => (V m c main_v0 : _) (ix3 (seqOf m hO t) (y 1) (y 2)) := by
  funext j
  unfold iblk
  rw [View.read_apply]
  show V m c main_v0 _ = V m c main_v0 _
  generalize V m c main_v0 = A
  exact congrArg A (row_ix (grid0.coords t) _ rfl j _ (fun _ => rfl))

theorem blk_1 (c : Dev nD) (t : Fin (cfgM m hO).N) :
    (iblk m hO c 1 t : Vec Ideal S1x64x1 .f32) = fun y : S1x64x1.Idx => (V m c main_v1 : _) (ix3 (seqOf m hO t) (y 1) (y 2)) := by
  funext j
  unfold iblk
  rw [View.read_apply]
  show V m c main_v1 _ = V m c main_v1 _
  generalize V m c main_v1 = A
  exact congrArg A (row_ix (grid0.coords t) _ rfl j _ (fun _ => rfl))

theorem blk_2 (c : Dev nD) (t : Fin (cfgM m hO).N) :
    (iblk m hO c 2 t : Vec Ideal S1x8x128 .f32) = fun y : S1x8x128.Idx => (V m c main_v2 : _) (ix3 (seqOf m hO t) (y 1) (y 2)) := by
  funext j
  unfold iblk
  rw [View.read_apply]
  show V m c main_v2 _ = V m c main_v2 _
  generalize V m c main_v2 = A
  exact congrArg A (row_ix (grid0.coords t) _ rfl j _ (fun _ => rfl))

/-- The place in the pool of an element of a page block. -/
theorem page_ix (pf : pre0.Contents (Elt Ideal)) (hb : ∀ b p, (pageOf pf b p).toNat < 2560) (b : Fin 128) (p : Fin 16)
    (f : Fin 3 → Nat) (hf : f = ![(pageOf pf b p).toNat, 0, 0]) (j : S1x128x128.Idx) (i : S2560x128x128.Idx)
    (hi : ∀ a, (i a).val = f a * S1x128x128.size a + 1 * (j a).val) :
    i = ix3 (pageIx (pageOf pf b p)) (j 1) (j 2) := by
  subst hf
  have h0 : (j 0).val < 1 := (j 0).isLt
  have hp := hb b p
  funext a
  refine Fin.ext ((hi a).trans ?_)
  match a with
  | ⟨0, _⟩ => show (pageOf pf b p).toNat * 1 + 1 * (j 0).val = min (pageOf pf b p).toNat 2559; omega
  | ⟨1, _⟩ => show 0 * 128 + 1 * (j 1).val = (j 1).val; omega
  | ⟨2, _⟩ => show 0 * 128 + 1 * (j 2).val = (j 2).val; omega

theorem blk_3 (hb : ∀ b p, (pageOf (tbl m) b p).toNat < 2560) (c : Dev nD) (t : Fin (cfgM m hO).N) :
    (iblk m hO c 3 t : Vec Ideal S1x128x128 .f32)
      = fun y : S1x128x128.Idx => (V m c main_arg3 : _) (ix3 (pageIx (pageOf (tbl m) (seqOf m hO t) 0)) (y 1) (y 2)) := by
  funext j
  unfold iblk
  rw [View.read_apply]
  show V m c main_arg3 _ = V m c main_arg3 _
  generalize V m c main_arg3 = A
  exact congrArg A (page_ix (tbl m) hb _ _ _ (map_0 _ _ (tbl m) (grid0.coords t)) j _ (fun _ => rfl))

theorem blk_4 (hb : ∀ b p, (pageOf (tbl m) b p).toNat < 2560) (c : Dev nD) (t : Fin (cfgM m hO).N) :
    (iblk m hO c 4 t : Vec Ideal S1x128x128 .f32)
      = fun y : S1x128x128.Idx => (V m c main_arg3 : _) (ix3 (pageIx (pageOf (tbl m) (seqOf m hO t) 1)) (y 1) (y 2)) := by
  funext j
  unfold iblk
  rw [View.read_apply]
  show V m c main_arg3 _ = V m c main_arg3 _
  generalize V m c main_arg3 = A
  exact congrArg A (page_ix (tbl m) hb _ _ _ (map_1 _ _ (tbl m) (grid0.coords t)) j _ (fun _ => rfl))

theorem blk_5 (hb : ∀ b p, (pageOf (tbl m) b p).toNat < 2560) (c : Dev nD) (t : Fin (cfgM m hO).N) :
    (iblk m hO c 5 t : Vec Ideal S1x128x128 .f32)
      = fun y : S1x128x128.Idx => (V m c main_arg3 : _) (ix3 (pageIx (pageOf (tbl m) (seqOf m hO t) 2)) (y 1) (y 2)) := by
  funext j
  unfold iblk
  rw [View.read_apply]
  show V m c main_arg3 _ = V m c main_arg3 _
  generalize V m c main_arg3 = A
  exact congrArg A (page_ix (tbl m) hb _ _ _ (map_2 _ _ (tbl m) (grid0.coords t)) j _ (fun _ => rfl))

theorem blk_6 (hb : ∀ b p, (pageOf (tbl m) b p).toNat < 2560) (c : Dev nD) (t : Fin (cfgM m hO).N) :
    (iblk m hO c 6 t : Vec Ideal S1x128x128 .f32)
      = fun y : S1x128x128.Idx => (V m c main_arg3 : _) (ix3 (pageIx (pageOf (tbl m) (seqOf m hO t) 3)) (y 1) (y 2)) := by
  funext j
  unfold iblk
  rw [View.read_apply]
  show V m c main_arg3 _ = V m c main_arg3 _
  generalize V m c main_arg3 = A
  exact congrArg A (page_ix (tbl m) hb _ _ _ (map_3 _ _ (tbl m) (grid0.coords t)) j _ (fun _ => rfl))

theorem blk_7 (hb : ∀ b p, (pageOf (tbl m) b p).toNat < 2560) (c : Dev nD) (t : Fin (cfgM m hO).N) :
    (iblk m hO c 7 t : Vec Ideal S1x128x128 .f32)
      = fun y : S1x128x128.Idx => (V m c main_arg3 : _) (ix3 (pageIx (pageOf (tbl m) (seqOf m hO t) 4)) (y 1) (y 2)) := by
  funext j
  unfold iblk
  rw [View.read_apply]
  show V m c main_arg3 _ = V m c main_arg3 _
  generalize V m c main_arg3 = A
  exact congrArg A (page_ix (tbl m) hb _ _ _ (map_4 _ _ (tbl m) (grid0.coords t)) j _ (fun _ => rfl))

theorem blk_8 (hb : ∀ b p, (pageOf (tbl m) b p).toNat < 2560) (c : Dev nD) (t : Fin (cfgM m hO).N) :
    (iblk m hO c 8 t : Vec Ideal S1x128x128 .f32)
      = fun y : S1x128x128.Idx => (V m c main_arg3 : _) (ix3 (pageIx (pageOf (tbl m) (seqOf m hO t) 5)) (y 1) (y 2)) := by
  funext j
  unfold iblk
  rw [View.read_apply]
  show V m c main_arg3 _ = V m c main_arg3 _
  generalize V m c main_arg3 = A
  exact congrArg A (page_ix (tbl m) hb _ _ _ (map_5 _ _ (tbl m) (grid0.coords t)) j _ (fun _ => rfl))

theorem blk_9 (hb : ∀ b p, (pageOf (tbl m) b p).toNat < 2560) (c : Dev nD) (t : Fin (cfgM m hO).N) :
    (iblk m hO c 9 t : Vec Ideal S1x128x128 .f32)
      = fun y : S1x128x128.Idx => (V m c main_arg3 : _) (ix3 (pageIx (pageOf (tbl m) (seqOf m hO t) 6)) (y 1) (y 2)) := by
  funext j
  unfold iblk
  rw [View.read_apply]
  show V m c main_arg3 _ = V m c main_arg3 _
  generalize V m c main_arg3 = A
  exact congrArg A (page_ix (tbl m) hb _ _ _ (map_6 _ _ (tbl m) (grid0.coords t)) j _ (fun _ => rfl))

theorem blk_10 (hb : ∀ b p, (pageOf (tbl m) b p).toNat < 2560) (c : Dev nD) (t : Fin (cfgM m hO).N) :
    (iblk m hO c 10 t : Vec Ideal S1x128x128 .f32)
      = fun y : S1x128x128.Idx => (V m c main_arg3 : _) (ix3 (pageIx (pageOf (tbl m) (seqOf m hO t) 7)) (y 1) (y 2)) := by
  funext j
  unfold iblk
  rw [View.read_apply]
  show V m c main_arg3 _ = V m c main_arg3 _
  generalize V m c main_arg3 = A
  exact congrArg A (page_ix (tbl m) hb _ _ _ (map_7 _ _ (tbl m) (grid0.coords t)) j _ (fun _ => rfl))

theorem blk_11 (hb : ∀ b p, (pageOf (tbl m) b p).toNat < 2560) (c : Dev nD) (t : Fin (cfgM m hO).N) :
    (iblk m hO c 11 t : Vec Ideal S1x128x128 .f32)
      = fun y : S1x128x128.Idx => (V m c main_arg3 : _) (ix3 (pageIx (pageOf (tbl m) (seqOf m hO t) 8)) (y 1) (y 2)) := by
  funext j
  unfold iblk
  rw [View.read_apply]
  show V m c main_arg3 _ = V m c main_arg3 _
  generalize V m c main_arg3 = A
  exact congrArg A (page_ix (tbl m) hb _ _ _ (map_8 _ _ (tbl m) (grid0.coords t)) j _ (fun _ => rfl))

theorem blk_12 (hb : ∀ b p, (pageOf (tbl m) b p).toNat < 2560) (c : Dev nD) (t : Fin (cfgM m hO).N) :
    (iblk m hO c 12 t : Vec Ideal S1x128x128 .f32)
      = fun y : S1x128x128.Idx => (V m c main_arg3 : _) (ix3 (pageIx (pageOf (tbl m) (seqOf m hO t) 9)) (y 1) (y 2)) := by
  funext j
  unfold iblk
  rw [View.read_apply]
  show V m c main_arg3 _ = V m c main_arg3 _
  generalize V m c main_arg3 = A
  exact congrArg A (page_ix (tbl m) hb _ _ _ (map_9 _ _ (tbl m) (grid0.coords t)) j _ (fun _ => rfl))

theorem blk_13 (hb : ∀ b p, (pageOf (tbl m) b p).toNat < 2560) (c : Dev nD) (t : Fin (cfgM m hO).N) :
    (iblk m hO c 13 t : Vec Ideal S1x128x128 .f32)
      = fun y : S1x128x128.Idx => (V m c main_arg3 : _) (ix3 (pageIx (pageOf (tbl m) (seqOf m hO t) 10)) (y 1) (y 2)) := by
  funext j
  unfold iblk
  rw [View.read_apply]
  show V m c main_arg3 _ = V m c main_arg3 _
  generalize V m c main_arg3 = A
  exact congrArg A (page_ix (tbl m) hb _ _ _ (map_10 _ _ (tbl m) (grid0.coords t)) j _ (fun _ => rfl))

theorem blk_14 (hb : ∀ b p, (pageOf (tbl m) b p).toNat < 2560) (c : Dev nD) (t : Fin (cfgM m hO).N) :
    (iblk m hO c 14 t : Vec Ideal S1x128x128 .f32)
      = fun y : S1x128x128.Idx => (V m c main_arg3 : _) (ix3 (pageIx (pageOf (tbl m) (seqOf m hO t) 11)) (y 1) (y 2)) := by
  funext j
  unfold iblk
  rw [View.read_apply]
  show V m c main_arg3 _ = V m c main_arg3 _
  generalize V m c main_arg3 = A
  exact congrArg A (page_ix (tbl m) hb _ _ _ (map_11 _ _ (tbl m) (grid0.coords t)) j _ (fun _ => rfl))

theorem blk_15 (hb : ∀ b p, (pageOf (tbl m) b p).toNat < 2560) (c : Dev nD) (t : Fin (cfgM m hO).N) :
    (iblk m hO c 15 t : Vec Ideal S1x128x128 .f32)
      = fun y : S1x128x128.Idx => (V m c main_arg3 : _) (ix3 (pageIx (pageOf (tbl m) (seqOf m hO t) 12)) (y 1) (y 2)) := by
  funext j
  unfold iblk
  rw [View.read_apply]
  show V m c main_arg3 _ = V m c main_arg3 _
  generalize V m c main_arg3 = A
  exact congrArg A (page_ix (tbl m) hb _ _ _ (map_12 _ _ (tbl m) (grid0.coords t)) j _ (fun _ => rfl))

theorem blk_16 (hb : ∀ b p, (pageOf (tbl m) b p).toNat < 2560) (c : Dev nD) (t : Fin (cfgM m hO).N) :
    (iblk m hO c 16 t : Vec Ideal S1x128x128 .f32)
      = fun y : S1x128x128.Idx => (V m c main_arg3 : _) (ix3 (pageIx (pageOf (tbl m) (seqOf m hO t) 13)) (y 1) (y 2)) := by
  funext j
  unfold iblk
  rw [View.read_apply]
  show V m c main_arg3 _ = V m c main_arg3 _
  generalize V m c main_arg3 = A
  exact congrArg A (page_ix (tbl m) hb _ _ _ (map_13 _ _ (tbl m) (grid0.coords t)) j _ (fun _ => rfl))

theorem blk_17 (hb : ∀ b p, (pageOf (tbl m) b p).toNat < 2560) (c : Dev nD) (t : Fin (cfgM m hO).N) :
    (iblk m hO c 17 t : Vec Ideal S1x128x128 .f32)
      = fun y : S1x128x128.Idx => (V m c main_arg3 : _) (ix3 (pageIx (pageOf (tbl m) (seqOf m hO t) 14)) (y 1) (y 2)) := by
  funext j
  unfold iblk
  rw [View.read_apply]
  show V m c main_arg3 _ = V m c main_arg3 _
  generalize V m c main_arg3 = A
  exact congrArg A (page_ix (tbl m) hb _ _ _ (map_14 _ _ (tbl m) (grid0.coords t)) j _ (fun _ => rfl))

theorem blk_18 (hb : ∀ b p, (pageOf (tbl m) b p).toNat < 2560) (c : Dev nD) (t : Fin (cfgM m hO).N) :
    (iblk m hO c 18 t : Vec Ideal S1x128x128 .f32)
      = fun y : S1x128x128.Idx => (V m c main_arg3 : _) (ix3 (pageIx (pageOf (tbl m) (seqOf m hO t) 15)) (y 1) (y 2)) := by
  funext j
  unfold iblk
  rw [View.read_apply]
  show V m c main_arg3 _ = V m c main_arg3 _
  generalize V m c main_arg3 = A
  exact congrArg A (page_ix (tbl m) hb _ _ _ (map_15 _ _ (tbl m) (grid0.coords t)) j _ (fun _ => rfl))

/-- The head-and-token row of the queries, at an index. -/
theorem q_apply (x : Vec Ideal S128x4x16x128 .f32) (b : Fin 128) (t : Fin 4) (h : Fin 16) (d : Fin 128) :
    shapeCast S128x64x128 x shapeCasts_S128x4x16x128_S128x64x128 (ix3 b ⟨16 * t.val + h.val, by omega⟩ d) = x (ix4 b t h d) := by
  pointwise

theorem w_apply (x : Vec Ideal S128x4x16 .f32) (b : Fin 128) (t : Fin 4) (h : Fin 16) (z : Fin 1) :
    shapeCast S128x64x1 x shapeCasts_S128x4x16_S128x64x1 (ix3 b ⟨16 * t.val + h.val, by omega⟩ z) = x (ix3 b t h) := by
  pointwise

theorem n_apply (x : Vec Ideal S128x4x128 .f32) (b : Fin 128) (r : Fin 8) (d : Fin 128) :
    pad S128x8x128 ![0, 0, 0] ![0, 4, 0] ![0, 0, 0] x (sitofp (F := Ideal) .f32 (constantI S_ 32 0#32) : Vec Ideal S_ .f32)
        pads_S128x4x128_S128x8x128_000_040_000 h_S_ (ix3 b r d)
      = if h : r.val < 4 then x (ix3 b ⟨r.val, h⟩ d) else (0 : EReal) := by
  have hz : (FloatOps.sitofp (F := Ideal) .f32 (0#32 : BitVec 32)) = (0 : EReal) := by
    show (((0#32 : BitVec 32).toInt : ℝ) : EReal) = 0
    simp
  pointwise
  rw [hz]

/-- The scores of the queries' arguments: what the kernel's result is to hold. -/
def result (c : Dev nD) : Vec Ideal S128x4x2176 .f32 := fun y =>
  score (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1) (y 2)

/-- The table the launch reads is the fifth argument. -/
theorem tbl_eq (c : Dev nD) : tbl m 0 = m ((c : Thread nD τ).loc main_arg4) :=
  (V_pre m c 0).symm.trans (V_main_arg4 m c)

/-- The block scores of a point are its sequence's rows of the scores. -/
theorem point_eq (a0 : Vec Ideal S128x4x16x128 .f32) (a1 : Vec Ideal S128x4x16 .f32) (a2 : Vec Ideal S128x4x128 .f32)
    (a3 : Vec Ideal S2560x128x128 .f32) (a4 : IVec S128x16 32) (b : Fin 128)
    (q : Vec Ideal S1x64x128 .f32) (w : Vec Ideal S1x64x1 .f32) (kn : Vec Ideal S1x8x128 .f32)
    (pages : Fin 16 → Vec Ideal S1x128x128 .f32)
    (hq : ∀ (t : Fin 4) (h : Fin 16) (d : Fin 128), q (ix3 0 ⟨16 * t.val + h.val, by omega⟩ d) = a0 (ix4 b t h d))
    (hw : ∀ (t : Fin 4) (h : Fin 16), w (ix3 0 ⟨16 * t.val + h.val, by omega⟩ 0) = a1 (ix3 b t h))
    (hn : ∀ (r : Fin 8) (d : Fin 128), kn (ix3 0 r d) = if h : r.val < 4 then a2 (ix3 b ⟨r.val, h⟩ d) else (0 : EReal))
    (hp : ∀ (p : Fin 16) (r d : Fin 128), pages p (ix3 0 r d) = a3 (ix3 (pageIx (a4 (ix2 b p))) r d))
    (t : Fin 4) (s : Fin 2176) :
    tokenScore q w (keyAt kn pages s) t = score a0 a1 a2 a3 a4 b t s := by
  have hk : ∀ d, keyAt kn pages s d = key a2 a3 a4 b s d := by
    intro d
    unfold keyAt key
    by_cases h : s.val < 2048
    · rw [dif_pos h, dif_pos h, hp]
    · rw [dif_neg h, dif_neg h]
      by_cases h' : s.val - 2048 < 8
      · rw [dif_pos h', hn]
      · rw [dif_neg h', dif_neg (by omega)]
  unfold tokenScore score
  exact Finset.sum_congr rfl fun h _ => by
    rw [hw]; exact congrArg (fun z : EReal => _ * max z 0) (Finset.sum_congr rfl fun d _ => by rw [hq, hk])

/-- The sixteen pages of a point's sequence. -/
def pagesAt (c : Dev nD) (t : Fin (cfgM m hO).N) : Fin 16 → Vec Ideal S1x128x128 .f32 := fun p y =>
  (V m c main_arg3 : _) (ix3 (pageIx (pageOf (tbl m) (seqOf m hO t) p)) (y 1) (y 2))

/-- What the body leaves at a point, from the arguments' rows. -/
theorem outs_eq (hb : ∀ b p, (pageOf (tbl m) b p).toNat < 2560) (c : Dev nD) (t : Fin (cfgM m hO).N) :
    outsAt0 m hO c t = scoreBlk (fun y : S1x64x128.Idx => (V m c main_v0 : _) (ix3 (seqOf m hO t) (y 1) (y 2)))
      (fun y : S1x64x1.Idx => (V m c main_v1 : _) (ix3 (seqOf m hO t) (y 1) (y 2)))
      (fun y : S1x8x128.Idx => (V m c main_v2 : _) (ix3 (seqOf m hO t) (y 1) (y 2))) (pagesAt m hO c t) := by
  unfold outsAt0
  refine (out_eq ..).trans ?_
  refine congr (congr (congr (congrArg scoreBlk (blk_0 m hO c t)) (blk_1 m hO c t)) (blk_2 m hO c t)) (funext fun p => ?_)
  fin_cases p
  exacts [blk_3 m hO hb c t,
    blk_4 m hO hb c t,
    blk_5 m hO hb c t,
    blk_6 m hO hb c t,
    blk_7 m hO hb c t,
    blk_8 m hO hb c t,
    blk_9 m hO hb c t,
    blk_10 m hO hb c t,
    blk_11 m hO hb c t,
    blk_12 m hO hb c t,
    blk_13 m hO hb c t,
    blk_14 m hO hb c t,
    blk_15 m hO hb c t,
    blk_16 m hO hb c t,
    blk_17 m hO hb c t,
    blk_18 m hO hb c t]

/-- What a point writes back is its block of the result. -/
theorem flushed_eq (hb : ∀ b p, (pageOf (tbl m) b p).toNat < 2560) (c : Dev nD) (t : Fin (cfgM m hO).N)
    (hf : ((cfgM m hO).win 19).flush t = true) :
    (dats m hO 0 c).flushed 19 t = (((cfgM m hO).win 19).blk t).view.read (Elt Ideal) (result m c) := by
  show ((cfgM m hO).win 19).cut (grid0.coords t) ((dats m hO 0 c).after 19 t) = _
  rw [after0_19, outs_eq m hO hb c t]
  funext j
  refine Eq.trans ?_ (View.read_apply ..).symm
  show scoreBlk _ _ _ _ (j : S1x4x2176.Idx) = result m c _
  refine Eq.trans ?_ (congrArg (result m c) (row_ix (n1 := 4) (n2 := 2176) (grid0.coords t) _ rfl j _ (fun _ => rfl))).symm
  unfold result
  refine point_eq (m ((c : Thread nD τ).loc main_arg0)) (m ((c : Thread nD τ).loc main_arg1)) (m ((c : Thread nD τ).loc main_arg2))
    (m ((c : Thread nD τ).loc main_arg3)) (m ((c : Thread nD τ).loc main_arg4)) (seqOf m hO t) _ _ _ _ ?_ ?_ ?_ ?_ _ _
  · intro t' h d
    rw [V_q]; exact q_apply _ _ _ _ _
  · intro t' h
    rw [V_w]; exact w_apply _ _ _ _ _
  · intro r d
    rw [V_n]; exact n_apply _ _ _ _
  · intro p r d
    rw [← tbl_eq m c, ← V_main_arg3 m c]
    rfl

/-- Every index of the result lies in some point's block. -/
theorem covered (i : S128x4x2176.Idx) : ∃ t : Fin (cfgM m hO).N, ((cfgM m hO).win 19).flush t = true
    ∧ i ∈ (((cfgM m hO).win 19).blk t).view.set := by
  have hN : (i 0).val < grid0.N := by rw [N_0]; exact (i 0).isLt
  refine ⟨⟨(i 0).val, hN⟩, flush0_19 _ _, ?_⟩
  have hc : (grid0.coords ⟨(i 0).val, hN⟩ 0).val = (i 0).val := by
    rw [Pipeline.Grid.coords_val (G := grid0) ⟨(i 0).val, hN⟩ 0 (S := 1) (B := 128) rfl rfl]
    have := (i 0).isLt
    show (i 0).val / 1 % 128 = (i 0).val
    have h : (i 0).val < 128 := (i 0).isLt
    omega
  refine ((Finset.ext_iff.mp (View.set_slice_whole _ _)) i).mpr (Rect.mem_set_unit.mpr ?_)
  intro a
  have h1 : (i 1 : Nat) < 4 := (i 1).isLt
  have h2 : (i 2 : Nat) < 2176 := (i 2).isLt
  match a with
  | ⟨0, _⟩ =>
    show (BitVec.ofNat 32 (grid0.coords ⟨(i 0).val, hN⟩ 0).val).toNat * 1 ≤ (i 0).val
      ∧ (i 0).val < (BitVec.ofNat 32 (grid0.coords ⟨(i 0).val, hN⟩ 0).val).toNat * 1 + 1
    rw [coord_word, hc]; omega
  | ⟨1, _⟩ => show 0 * 4 ≤ (i 1).val ∧ (i 1).val < 0 * 4 + 4; omega
  | ⟨2, _⟩ => show 0 * 2176 ≤ (i 2).val ∧ (i 2).val < 0 * 2176 + 2176; omega

/-- The result array at the end of the launch. -/
theorem final_eq (hb : ∀ b p, (pageOf (tbl m) b p).toNat < 2560) (c : Dev nD) :
    (dats m hO 0 c).arrAt 19 (cfgM m hO).N = result m c :=
  (dats m hO 0 c).arrAt_eq_of_cover 19 (result m c) (flushed_eq m hO hb c) (covered m hO)

end Cert.KernelIdeal.Val

end
-- ==== Proof.ScoresRef.lean ====
/-
  The reference's scores read at an index: the gather of pages, the joined keys, the two contractions and the padding come
  to the one formula of `ScoresSpec`.
-/
module

public import proofs.«01_k».proof.Proof.ScoresSpec
public import proofs.«01_k».proof.Proof.Gen.ReferenceIdeal
public import proofs.«01_k».proof.Proof.Gen.ReferenceIdeal.Read

@[expose] public section

set_option maxRecDepth 16384

noncomputable section

namespace Cert.ReferenceIdeal.Val

open Cert.ReferenceIdeal Cert.ReferenceIdeal.Gen Idealize.ShloMosaic
open Cert.Scores Cert.ReferenceIdeal.Read

/-- The gather of whole pages read at an index: the page named by the start word, clamped into the pool. -/
theorem pages_apply (x : S2560x128x128.Idx → EReal) (ix : IVec S128x16x1 32) (b : Fin 128) (p : Fin 16) (r d : Fin 128) :
    Host.gather gather_S2560x128x128_S128x16x1_S128x16x128x128_23_0_n_n_0_2_1128128 x ix (ix4 b p r d)
      = x (ix3 ⟨min (ix (ix3 b p 0)).toInt.toNat 2559, by omega⟩ r d) := by
  unfold Host.gather
  congr 1
  funext a
  refine Fin.ext ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  show GatherDims.start _ _ ix a + GatherDims.batchCoord _ _ a + GatherDims.offCoord _ _ a = _
  rcases h012 with rfl | rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S2560x128x128_S128x16x1_S128x16x128x128_23_0_n_n_0_2_1128128.startIndexMap from
      List.mem_singleton.mpr rfl)]
    refine congrArg (fun k : BitVec 32 => min k.toInt.toNat 2559) (congrArg ix ?_)
    funext c; refine Fin.ext ?_
    match c with
    | ⟨0, _⟩ => rfl
    | ⟨1, _⟩ => rfl
    | ⟨2, _⟩ => rfl
  · rw [GatherDims.batchCoord_eq_zero _ _ _ List.not_mem_nil]
    unfold GatherDims.start
    rw [dif_neg (show ¬ (1 : Fin 3) ∈ gather_S2560x128x128_S128x16x1_S128x16x128x128_23_0_n_n_0_2_1128128.startIndexMap from
      (by decide : ¬ (1 : Fin 3) ∈ [(0 : Fin 3)]))]
    simp only [Nat.zero_add]
    rfl
  · rw [GatherDims.batchCoord_eq_zero _ _ _ List.not_mem_nil]
    unfold GatherDims.start
    rw [dif_neg (show ¬ (2 : Fin 3) ∈ gather_S2560x128x128_S128x16x1_S128x16x128x128_23_0_n_n_0_2_1128128.startIndexMap from
      (by decide : ¬ (2 : Fin 3) ∈ [(0 : Fin 3)]))]
    simp only [Nat.zero_add]
    rfl

/-- A table word below 2560 comes through the reference's treatment of negative indices unchanged. -/
theorem word_eq (x4 : IVec S128x16 32) (hb : ∀ y, (x4 y).toNat < 2560) (b : Fin 128) (p : Fin 16) :
    (val_main_v5 (F := Ideal) x4 (ix3 b p 0)) = x4 (ix2 b p) := by
  rw [val_main_v5_apply, val_main_v4_apply, val_main_v1_apply, val_main_v0_apply, val_main_c_apply]
  have hi : (idx_main_v5 (ix3 b p 0) : S128x16.Idx) = ix2 b p := by
    funext a; match a with | ⟨0, _⟩ => rfl | ⟨1, _⟩ => rfl
  rw [hi]
  have h := hb (ix2 b p)
  have : IntOp.cmpi .slt (x4 (ix2 b p)) 0#32 = 0#1 := by
    simp only [IntOp.cmpi, BitVec.slt, BitVec.toInt, BitVec.toNat_ofNat]
    rw [show decide _ = false from decide_eq_false (by omega)]; rfl
  rw [this]; rfl

/-- The joined keys at an index. -/
theorem keys_apply (x2 : S128x4x128.Idx → EReal) (x3 : S2560x128x128.Idx → EReal) (x4 : IVec S128x16 32)
    (hb : ∀ y, (x4 y).toNat < 2560) (b : Fin 128) (s : Fin 2052) (d : Fin 128) :
    val_main_v8 (F := Ideal) x2 x3 x4 (ix3 b s d) = key x2 x3 x4 b ⟨s.val, by omega⟩ d := by
  have h7 : ∀ s' : Fin 2048, val_main_v7 (F := Ideal) x3 x4 (ix3 b s' d)
      = x3 (ix3 (pageIx (x4 (ix2 b ⟨s'.val / 128, by omega⟩))) ⟨s'.val % 128, by omega⟩ d) := by
    intro s'
    rw [val_main_v7_apply]
    have hi : (idx_main_v7 (ix3 b s' d) : S128x16x128x128.Idx) = ix4 b ⟨s'.val / 128, by omega⟩ ⟨s'.val % 128, by omega⟩ d := by
      funext a
      refine Fin.ext ?_
      match a with
      | ⟨0, _⟩ => simp [idx_main_v7]; omega
      | ⟨1, _⟩ => simp [idx_main_v7]; omega
      | ⟨2, _⟩ => simp [idx_main_v7]; omega
      | ⟨3, _⟩ => simp [idx_main_v7]
    rw [hi]
    unfold val_main_v6
    rw [pages_apply]
    congr 1
    funext a
    refine Fin.ext ?_
    match a with
    | ⟨0, _⟩ =>
      show min (val_main_v5 (F := Ideal) x4 (ix3 b ⟨s'.val / 128, _⟩ 0)).toInt.toNat 2559 = min (x4 (ix2 b ⟨s'.val / 128, _⟩)).toNat 2559
      have h := hb (ix2 b ⟨s'.val / 128, by omega⟩)
      rw [word_eq x4 hb, BitVec.toInt_eq_toNat_of_lt (by omega)]; rfl
    | ⟨1, _⟩ => rfl
    | ⟨2, _⟩ => rfl
  unfold val_main_v8 key
  generalize val_main_v7 (F := Ideal) x3 x4 = y at h7
  pointwise
  by_cases h : s.val < 2048
  · rw [dif_pos h, dif_pos h, h7]
  · rw [dif_neg h, dif_neg h, dif_pos (by omega)]

/-- The reference's result at an index. -/
theorem result_apply (x0 : S128x4x16x128.Idx → EReal) (x1 : S128x4x16.Idx → EReal) (x2 : S128x4x128.Idx → EReal)
    (x3 : S2560x128x128.Idx → EReal) (x4 : IVec S128x16 32)
    (hb : ∀ y, (x4 y).toNat < 2560) (b : Fin 128) (t : Fin 4) (s : Fin 2176) :
    val_main_v13 (F := Ideal) x0 x1 x2 x3 x4 (ix3 b t s) = score x0 x1 x2 x3 x4 b t s := by
  have h12 : ∀ s' : Fin 2052, val_main_v12 (F := Ideal) x0 x1 x2 x3 x4 (ix3 b t s')
      = score x0 x1 x2 x3 x4 b t ⟨s'.val, by omega⟩ := by
    intro s'
    rw [val_main_v12_apply]
    unfold score
    refine Finset.sum_congr rfl fun h _ => ?_
    have hl : (lidx_main_v12 (ix3 b t s') h : S128x4x16.Idx) = ix3 b t h := by
      funext a; match a with | ⟨0, _⟩ => rfl | ⟨1, _⟩ => rfl | ⟨2, _⟩ => rfl
    have hr : (ridx_main_v12 (ix3 b t s') h : S128x4x16x2052.Idx) = ix4 b t h s' := by
      funext a; match a with | ⟨0, _⟩ => rfl | ⟨1, _⟩ => rfl | ⟨2, _⟩ => rfl | ⟨3, _⟩ => rfl
    rw [hl, hr, val_main_v11_apply, val_main_v9_apply, val_main_v10_apply, val_main_cst_apply]
    refine congrArg (fun z : EReal => x1 (ix3 b t h) * z) ?_
    have hz : (FloatOps.ofBits (F := Ideal) .f32 0x00000000#32) = (0 : EReal) := by pointwise
    rw [hz]
    refine congrArg (fun z : EReal => max z 0) (Finset.sum_congr rfl fun d _ => ?_)
    have hl : (lidx_main_v9 (ix4 b t h s') d : S128x4x16x128.Idx) = ix4 b t h d := by
      funext a; match a with | ⟨0, _⟩ => rfl | ⟨1, _⟩ => rfl | ⟨2, _⟩ => rfl | ⟨3, _⟩ => rfl
    have hr : (ridx_main_v9 (ix4 b t h s') d : S128x2052x128.Idx) = ix3 b s' d := by
      funext a; match a with | ⟨0, _⟩ => rfl | ⟨1, _⟩ => rfl | ⟨2, _⟩ => rfl
    rw [hl, hr, keys_apply x2 x3 x4 hb]
  unfold val_main_v13 val_main_cst_1
  generalize val_main_v12 (F := Ideal) x0 x1 x2 x3 x4 = y at h12
  pointwise
  by_cases h : s.val < 2052
  · rw [dif_pos h, h12]
  · rw [dif_neg h, score_tail _ _ _ _ _ _ _ _ (by omega)]

end Cert.ReferenceIdeal.Val

end
-- ==== Proof.ScoresClaim.lean ====
/-
  The four claims about the indexer's scores: the frames of the kernel, of its idealization and of the reference, and the
  equality of the kernel's result with the reference's over the extended reals.
-/
module

public import proofs.«01_k».proof.Proof.PagesKernel
public import proofs.«01_k».proof.Proof.ScoresRun
public import proofs.«01_k».proof.Proof.ScoresRef
public import Idealize.ShloMosaic.Adequacy
public import Idealize.ShloMosaic.Init

@[expose] public section

set_option maxRecDepth 16384

noncomputable section

namespace Cert.Scores

open Idealize.ShloMosaic Idealize.ShloMosaic.TcCoe Idealize.SL.Sem

theorem ok_kernel (m : (ℓ : Loc Cert.Kernel.nD Cert.Kernel.τ Cert.Kernel.sig) → Buf (Elt Bits) ℓ) (h : Cert.Pre_Kernel m) :
    Cert.Kernel.Gen.Ok m :=
  Cert.Kernel.Val.ok_of_bound _ fun b p => by
    have e : Cert.Kernel.Gen.tbl m 0 = m (((0 : Dev Cert.Kernel.nD).tc : Thread Cert.Kernel.nD Cert.Kernel.τ).loc Cert.Kernel.main_arg4) :=
      (Cert.Kernel.Gen.V_pre m 0 0).symm.trans (Cert.Kernel.Gen.V_main_arg4 m 0)
    rw [Cert.Kernel.Val.pageOf, e]
    exact Cert.Kernel.Val.bound_of_pre _ _ _ _ _ (h 0) (ix2 b p)

theorem bound_ideal (m : (ℓ : Loc Cert.KernelIdeal.nD Cert.KernelIdeal.τ Cert.KernelIdeal.sig) → Buf (Elt Ideal) ℓ)
    (h : Cert.Pre_KernelIdeal m) (b : Fin 128) (p : Fin 16) :
    (Cert.KernelIdeal.Val.pageOf (Cert.KernelIdeal.Gen.tbl m) b p).toNat < 2560 := by
  rw [Cert.KernelIdeal.Val.pageOf, Cert.KernelIdeal.Val.tbl_eq m 0]
  exact Cert.KernelIdeal.Val.bound_of_pre _ _ _ _ _ (h 0) (ix2 b p)

theorem ok_ideal (m : (ℓ : Loc Cert.KernelIdeal.nD Cert.KernelIdeal.τ Cert.KernelIdeal.sig) → Buf (Elt Ideal) ℓ)
    (h : Cert.Pre_KernelIdeal m) : Cert.KernelIdeal.Gen.Ok m :=
  Cert.KernelIdeal.Val.ok_of_bound _ (bound_ideal m h)

theorem frame_kernel : Cert.quiescent_Kernel := fun m ρ h => Cert.Kernel.Gen.frame m ρ (ok_kernel m h)

theorem frame_ideal : Cert.quiescent_KernelIdeal := fun m ρ h => Cert.KernelIdeal.Gen.frame m ρ (ok_ideal m h)

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's scores are the reference's. -/
theorem algebraic : Cert.algebraic_KernelIdeal_ReferenceIdeal := by
  intro m g m' g' hpre hag
  refine ⟨fun c => Cert.KernelIdeal.Val.result m c, ?_, ?_⟩
  · refine (θ_run Cert.KernelIdeal.defs _ _).mono (fun _ h c => ⟨?_, h.2 c⟩)
      (θ_run_and (Cert.KernelIdeal.Gen.run_main m g (ok_ideal m hpre)) (Cert.KernelIdeal.Gen.unchanged m g (ok_ideal m hpre)))
    exact ((h.1 c).1 19).trans (Cert.KernelIdeal.Val.final_eq m (ok_ideal m hpre) (bound_ideal m hpre) c)
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v13_eq]
    obtain ⟨e0, e1, e2, e3, e4⟩ := hag c
    rw [e0, e1, e2, e3, e4]
    refine funext fun (y : (⟨3, ![128, 4, 2176]⟩ : Shape).Idx) => ?_
    idx_vars y
    refine (Cert.ReferenceIdeal.Val.result_apply _ _ _ _ _ ?_ y0 y1 y2).trans rfl
    exact fun y => Cert.KernelIdeal.Val.bound_of_pre _ _ _ _ _ (hpre c) y

end Cert.Scores

end
-- ==== Proof.ProjSpec.lean ====
/-
  The in-projection as ONE function of its arguments: the normalized and modulated row times the packed weight, and what each
  head of 128 columns then goes through (a head norm, a rotary turn, a scaling, or nothing), by the 512-column tile it lies in.
-/
module

public import Idealize.ShloMosaic.Lib.Pointwise
public import Idealize.ShloMosaic.Lib.Pipeline.Value

@[expose] public section

noncomputable section

namespace Cert.Proj

open Idealize.ShloMosaic

/-- The rotary angle of position `p` at frequency `j`. -/
def angle (p : Fin 2048) (j : Fin 64) : EReal :=
  FloatOps.sitofp (F := Ideal) FTy.f32 (BitVec.ofNat 32 p.val)
    * Ideal.pow (Ideal.ofBits FTy.f32 0x461C4000#32)
        (Ideal.div (-(FloatOps.sitofp (F := Ideal) FTy.f32 (BitVec.ofNat 32 j.val) : EReal)) (Ideal.ofBits FTy.f32 0x42800000#32))

/-- The tables as a turn of 64 lanes wants them: the cosine twice, the sine negated on the first half. -/
def cosT (p : Fin 2048) (j : Fin 128) : EReal :=
  if h : j.val < 64 then Ideal.cos (angle p ⟨j.val, h⟩) else Ideal.cos (angle p ⟨j.val - 64, by omega⟩)
def sinT (p : Fin 2048) (j : Fin 128) : EReal :=
  if h : j.val < 64 then -Ideal.sin (angle p ⟨j.val, h⟩) else Ideal.sin (angle p ⟨j.val - 64, by omega⟩)

/-- A row normalized by its root mean square, scaled by `g`, then modulated by `1 + s` and `b`. -/
def hid (x g s b : Fin 2048 → EReal) (k : Fin 2048) : EReal :=
  x k * Ideal.rsqrt (Ideal.div (∑ i : Fin 2048, x i * x i) (Ideal.ofBits FTy.f32 0x45000000#32) + Ideal.ofBits FTy.f32 0x358637BD#32)
    * g k * (1 + s k) + b k

/-- A head's norm and its rotary turn. -/
def headNorm (a g : Fin 128 → EReal) (j : Fin 128) : EReal :=
  a j * Ideal.rsqrt (Ideal.div (∑ i : Fin 128, a i * a i) (Ideal.ofBits FTy.f32 0x43000000#32) + Ideal.ofBits FTy.f32 0x358637BD#32) * g j
def turn (a cos sin : Fin 128 → EReal) (j : Fin 128) : EReal :=
  a j * cos j + a ⟨(j.val + 128 - 64) % 128, by omega⟩ * sin j

/-- Head `e` of a 512-column tile. -/
def headOf (a : Fin 512 → EReal) (e : Fin 4) (j : Fin 128) : EReal := a ⟨128 * e.val + j.val, by omega⟩

/-- What becomes of column `l` of tile `n`, whose projected row is `a`. -/
def cell (n : Nat) (a : Fin 512 → EReal) (cos sin qg kg : Fin 128 → EReal) (l : Fin 512) : EReal :=
  let hd := headOf a ⟨l.val / 128, by omega⟩
  let j : Fin 128 := ⟨l.val % 128, by omega⟩
  if n ≤ 3 then turn (headNorm hd qg) cos sin j
  else if n ≤ 7 then turn hd cos sin j
  else if n = 8 then turn (headNorm hd kg) cos sin j
  else if n = 10 then
    if l.val < 128 then turn hd cos sin j
    else if l.val < 256 then a l * Ideal.ofBits FTy.f32 0x3CB504F3#32
    else a l
  else a l

/-- The turn written as the two halves: the first half's partner is subtracted, the second half's added. -/
theorem turn_halves (a : Fin 128 → EReal) (p : Fin 2048) (j : Fin 128) : turn a (cosT p) (sinT p) j
    = if h : j.val < 64 then a ⟨j.val, by omega⟩ * Ideal.cos (angle p ⟨j.val, h⟩) - a ⟨64 + j.val, by omega⟩ * Ideal.sin (angle p ⟨j.val, h⟩)
      else a ⟨j.val - 64, by omega⟩ * Ideal.sin (angle p ⟨j.val - 64, by omega⟩) + a ⟨64 + (j.val - 64), by omega⟩ * Ideal.cos (angle p ⟨j.val - 64, by omega⟩) := by
  unfold turn cosT sinT
  by_cases h : j.val < 64
  · rw [dif_pos h, dif_pos h, dif_pos h, mul_neg, ← sub_eq_add_neg]
    rw [show (⟨(j.val + 128 - 64) % 128, by omega⟩ : Fin 128) = ⟨64 + j.val, by omega⟩ from Fin.ext (by show (j.val + 128 - 64) % 128 = 64 + j.val; omega)]
  · rw [dif_neg h, dif_neg h, dif_neg h, add_comm]
    rw [show (⟨(j.val + 128 - 64) % 128, by omega⟩ : Fin 128) = ⟨j.val - 64, by omega⟩ from Fin.ext (by show (j.val + 128 - 64) % 128 = j.val - 64; omega)]
    rw [show (⟨64 + (j.val - 64), by omega⟩ : Fin 128) = j from Fin.ext (by show 64 + (j.val - 64) = j.val; omega)]

theorem hid_congr {x x' g g' s s' b b' : Fin 2048 → EReal} (hx : ∀ k, x k = x' k) (hg : ∀ k, g k = g' k) (hs : ∀ k, s k = s' k)
    (hb : ∀ k, b k = b' k) (k : Fin 2048) : hid x g s b k = hid x' g' s' b' k := by
  rw [funext hx, funext hg, funext hs, funext hb]

theorem cell_congr {n n' : Nat} {a a' : Fin 512 → EReal} {c c' s s' qg qg' kg kg' : Fin 128 → EReal} {l l' : Fin 512} (hn : n = n')
    (ha : ∀ i, a i = a' i) (hc : ∀ j, c j = c' j) (hs : ∀ j, s j = s' j) (hq : ∀ j, qg j = qg' j) (hk : ∀ j, kg j = kg' j) (hl : l = l') :
    cell n a c s qg kg l = cell n' a' c' s' qg' kg' l' := by
  rw [hn, funext ha, funext hc, funext hs, funext hq, funext hk, hl]

/-- The weight's columns in the packed order, zero in the gaps. -/
def packed (w : Vec Ideal ⟨2, ![2048, 10384]⟩ .f32) (k : Fin 2048) (c : Fin 10752) : EReal :=
  if h : c.val < 2048 then w (ix2 k (⟨c.val, by omega⟩ : Fin 10384))
  else if h : c.val < 4096 then w (ix2 k (⟨c.val + 1024, by omega⟩ : Fin 10384))
  else if h : c.val < 5120 then w (ix2 k (⟨c.val - 2048, by omega⟩ : Fin 10384))
  else if h : c.val < 5264 then w (ix2 k (⟨c.val, by omega⟩ : Fin 10384))
  else if h : c.val < 5376 then 0
  else if h : c.val < 6400 then w (ix2 k (⟨c.val - 112, by omega⟩ : Fin 10384))
  else if h : c.val < 6656 then 0
  else w (ix2 k (⟨c.val - 368, by omega⟩ : Fin 10384))

/-- Row `r` (position `r % 2048` of sequence `r / 2048`) normalized and modulated. -/
def rowHid (x : Vec Ideal ⟨3, ![8, 2048, 2048]⟩ .f32) (b s : Vec Ideal ⟨3, ![8, 1, 2048]⟩ .f32) (g : Vec Ideal ⟨1, ![2048]⟩ .f32)
    (r : Fin 16384) : Fin 2048 → EReal :=
  hid (fun k => x (ix3 (⟨r.val / 2048, by omega⟩ : Fin 8) (⟨r.val % 2048, by omega⟩ : Fin 2048) k)) (fun k => g (ix1 k))
    (fun k => s (ix3 (⟨r.val / 2048, by omega⟩ : Fin 8) (0 : Fin 1) k)) (fun k => b (ix3 (⟨r.val / 2048, by omega⟩ : Fin 8) (0 : Fin 1) k))

/-- The in-projection at row `r` and packed column `c`. -/
def projected (x : Vec Ideal ⟨3, ![8, 2048, 2048]⟩ .f32) (b s : Vec Ideal ⟨3, ![8, 1, 2048]⟩ .f32) (g : Vec Ideal ⟨1, ![2048]⟩ .f32)
    (w : Vec Ideal ⟨2, ![2048, 10384]⟩ .f32) (qg kg : Vec Ideal ⟨1, ![128]⟩ .f32) (r : Fin 16384) (c : Fin 10752) : EReal :=
  cell (c.val / 512) (fun l => ∑ k : Fin 2048, rowHid x b s g r k * packed w k (⟨c.val / 512 * 512 + l.val, by omega⟩ : Fin 10752))
    (cosT ⟨r.val % 2048, by omega⟩) (sinT ⟨r.val % 2048, by omega⟩) (fun j => qg (ix1 j)) (fun j => kg (ix1 j)) ⟨c.val % 512, by omega⟩

end Cert.Proj

end
-- ==== Proof.ProjPay.lean ====
/-
  What one grid point of the in-projection computes, head by head: every value stored into the 512-column tile, as `Proj.cell` of
  the tile's projected rows.
-/
module

public import proofs.«01_k».proof.Proof.Gen.Kernel2Ideal.Frame
public import proofs.«01_k».proof.Proof.ProjSpec

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Cert.Proj

/-- The normalized and modulated rows of a row tile. -/
def hidTile (x : Vec Ideal S1024x2048 .f32) (s b : Vec Ideal S1x1x2048 .f32) (g : Vec Ideal S1x2048 .f32) : Vec Ideal S1024x2048 .bf16 :=
  fun y => hid (fun k => x (ix2 (y 0) k)) (fun k => g (ix2 0 k)) (fun k => s (ix3 0 0 k)) (fun k => b (ix3 0 0 k)) (y 1)

/-- The tile of column tile `n`, from the hidden rows, the weight's columns, the tables and the head norms' gains. -/
def tileOf (n : Nat) (h : Vec Ideal S1024x2048 .bf16) (w : Vec Ideal S2048x512 .bf16) (c s : Vec Ideal S1024x128 .f32)
    (qg kg : Vec Ideal S1x128 .f32) : Vec Ideal S1024x512 .f32 :=
  fun y => cell n (fun l => ∑ k : Fin 2048, h (ix2 (y 0) k) * w (ix2 k l)) (fun j => c (ix2 (y 0) j)) (fun j => s (ix2 (y 0) j))
    (fun j => qg (ix2 0 j)) (fun j => kg (ix2 0 j)) (y 1)

theorem pay7_eq (x : Vec Ideal S1024x2048 .f32) (s b : Vec Ideal S1x1x2048 .f32) (g : Vec Ideal S1x2048 .f32) :
    (k0_pay7 (F := Ideal) x g s b : Vec Ideal S1024x2048 .bf16) = hidTile x s b g := by
  refine funext fun (y : S1024x2048.Idx) => ?_
  idx_vars y
  show k0_pay7 (F := Ideal) x g s b (ix2 y0 y1) = _
  pointwise [k0_pay7]
  rfl

theorem pay8_apply (h : Vec Ideal S1024x2048 .bf16) (w : Vec Ideal S2048x512 .bf16) (r : Fin 1024) (l : Fin 512) :
    k0_pay8 (F := Ideal) h w (ix2 r l) = ∑ k : Fin 2048, h (ix2 r k) * w (ix2 k l) := by
  pointwise [k0_pay8]

theorem pay9_eq (c : Vec Ideal S1024x128 .f32) : (k0_pay9 (F := Ideal) c : Vec Ideal S1024x128 .f32) = c := by
  refine funext fun (y : S1024x128.Idx) => ?_
  idx_vars y
  show k0_pay9 (F := Ideal) c (ix2 y0 y1) = _
  pointwise [k0_pay9]

theorem pay10_eq (c : Vec Ideal S1024x128 .f32) : (k0_pay10 (F := Ideal) c : Vec Ideal S1024x128 .f32) = c := by
  refine funext fun (y : S1024x128.Idx) => ?_
  idx_vars y
  show k0_pay10 (F := Ideal) c (ix2 y0 y1) = _
  pointwise [k0_pay10]

/-! ## The heads: a norm and a turn, or a turn alone, of the 128 columns from `off` on -/

/-- Row `r` of the 128 columns of a tile that start at `off`. -/
def cut (a : Vec Ideal S1024x512 .f32) (r : Fin 1024) (off : Nat) (h : off + 128 ≤ 512) (j : Fin 128) : EReal :=
  a (ix2 r (⟨off + j.val, by omega⟩ : Fin 512))

section heads
variable (h : Vec Ideal S1024x2048 .bf16) (w : Vec Ideal S2048x512 .bf16) (a : Vec Ideal S1024x512 .f32) (c s : Vec Ideal S1024x128 .f32)
  (g : Vec Ideal S1x128 .f32) (r : Fin 1024) (l : Fin 128)

/-- A normed and turned head, a turned head, at row `r`. -/
def normed (off : Nat) (ho : off + 128 ≤ 512) : EReal :=
  turn (headNorm (cut a r off ho) (fun j => g (ix2 0 j))) (fun j => c (ix2 r j)) (fun j => s (ix2 r j)) l
def turned (off : Nat) (ho : off + 128 ≤ 512) : EReal :=
  turn (cut a r off ho) (fun j => c (ix2 r j)) (fun j => s (ix2 r j)) l

theorem pay1_apply : k0_pay1 (F := Ideal) a c s g (ix2 r l) = normed a c s g r l 0 (by decide) := by
  pointwise [k0_pay1, normed, turn, headNorm, cut]
theorem pay2_apply : k0_pay2 (F := Ideal) a c s g (ix2 r l) = normed a c s g r l 128 (by decide) := by
  pointwise [k0_pay2, normed, turn, headNorm, cut]
theorem pay11_apply : k0_pay11 (F := Ideal) c s (k0_pay3 (F := Ideal) a) g (ix2 r l) = normed a c s g r l 256 (by decide) := by
  pointwise [k0_pay11, k0_pay3, k0_pay9, k0_pay10, normed, turn, headNorm, cut]
theorem pay12_apply : k0_pay12 (F := Ideal) h w c s g (ix2 r l) = normed (k0_pay8 (F := Ideal) h w) c s g r l 384 (by decide) := by
  pointwise [k0_pay12, k0_pay9, k0_pay10, normed, turn, headNorm, cut]
theorem pay4_eq : k0_pay4 (F := Ideal) a c s g = k0_pay1 (F := Ideal) a c s g := rfl
theorem pay5_eq : k0_pay5 (F := Ideal) a c s g = k0_pay2 (F := Ideal) a c s g := rfl
theorem pay17_eq : k0_pay17 (F := Ideal) c s (k0_pay6 (F := Ideal) a) g = k0_pay11 (F := Ideal) c s (k0_pay3 (F := Ideal) a) g := rfl
theorem pay18_eq : k0_pay18 (F := Ideal) h w c s g = k0_pay12 (F := Ideal) h w c s g := rfl

theorem pay13_apply : k0_pay13 (F := Ideal) h w c s (ix2 r l) = turned (k0_pay8 (F := Ideal) h w) c s r l 0 (by decide) := by
  pointwise [k0_pay13, k0_pay9, k0_pay10, turned, turn, cut]
theorem pay14_apply : k0_pay14 (F := Ideal) h w c s (ix2 r l) = turned (k0_pay8 (F := Ideal) h w) c s r l 128 (by decide) := by
  pointwise [k0_pay14, k0_pay9, k0_pay10, turned, turn, cut]
theorem pay15_apply : k0_pay15 (F := Ideal) h w c s (ix2 r l) = turned (k0_pay8 (F := Ideal) h w) c s r l 256 (by decide) := by
  pointwise [k0_pay15, k0_pay9, k0_pay10, turned, turn, cut]
theorem pay16_apply : k0_pay16 (F := Ideal) h w c s (ix2 r l) = turned (k0_pay8 (F := Ideal) h w) c s r l 384 (by decide) := by
  pointwise [k0_pay16, k0_pay9, k0_pay10, turned, turn, cut]
theorem pay19_eq : k0_pay19 (F := Ideal) h w c s = k0_pay13 (F := Ideal) h w c s := rfl

theorem pay20_apply : k0_pay20 (F := Ideal) h w (ix2 r l)
    = k0_pay8 (F := Ideal) h w (ix2 r (⟨128 + l.val, by omega⟩ : Fin 512)) * Ideal.ofBits FTy.f32 0x3CB504F3#32 := by
  pointwise [k0_pay20]
theorem pay21_apply (l : Fin 256) : k0_pay21 (F := Ideal) h w (ix2 r l) = k0_pay8 (F := Ideal) h w (ix2 r (⟨256 + l.val, by omega⟩ : Fin 512)) := by
  pointwise [k0_pay21]

end heads

/-! ## The tile's columns, head by head -/

section tile
variable (n : Nat) (h : Vec Ideal S1024x2048 .bf16) (w : Vec Ideal S2048x512 .bf16) (c s : Vec Ideal S1024x128 .f32)
  (qg kg : Vec Ideal S1x128 .f32) (r : Fin 1024)

theorem tile_row (l : Fin 512) : tileOf n h w c s qg kg (ix2 r l)
    = cell n (fun l => k0_pay8 (F := Ideal) h w (ix2 r l)) (fun j => c (ix2 r j)) (fun j => s (ix2 r j)) (fun j => qg (ix2 0 j))
        (fun j => kg (ix2 0 j)) l := by
  simp only [pay8_apply]
  rfl

theorem headOf_cut (a : Vec Ideal S1024x512 .f32) (e : Fin 4) (l : Fin 128) (off : Nat) (ho : off + 128 ≤ 512) (he : off = 128 * e.val)
    (l' : Fin 512) (hl : l'.val = off + l.val) :
    headOf (fun l => a (ix2 r l)) ⟨l'.val / 128, by omega⟩ = cut a r off ho ∧ (⟨l'.val % 128, by omega⟩ : Fin 128) = l := by
  subst he
  refine ⟨funext fun j => congrArg (fun q => a (ix2 r q)) (Fin.ext ?_), Fin.ext ?_⟩
  · show 128 * (l'.val / 128) + j.val = 128 * e.val + j.val; omega
  · show l'.val % 128 = l.val; omega

theorem tile_q (hn : n ≤ 3) (e : Fin 4) (l : Fin 128) (off : Nat) (ho : off + 128 ≤ 512) (he : off = 128 * e.val) :
    tileOf n h w c s qg kg (ix2 r (⟨off + l.val, by omega⟩ : Fin 512)) = normed (k0_pay8 (F := Ideal) h w) c s qg r l off ho := by
  obtain ⟨e1, e2⟩ := headOf_cut r (k0_pay8 (F := Ideal) h w) e l off ho he ⟨off + l.val, by omega⟩ rfl
  rw [tile_row]
  unfold cell normed
  simp only [if_pos hn]
  rw [e1, e2]

theorem tile_k (hn : n = 8) (e : Fin 4) (l : Fin 128) (off : Nat) (ho : off + 128 ≤ 512) (he : off = 128 * e.val) :
    tileOf n h w c s qg kg (ix2 r (⟨off + l.val, by omega⟩ : Fin 512)) = normed (k0_pay8 (F := Ideal) h w) c s kg r l off ho := by
  obtain ⟨e1, e2⟩ := headOf_cut r (k0_pay8 (F := Ideal) h w) e l off ho he ⟨off + l.val, by omega⟩ rfl
  rw [tile_row]
  unfold cell normed
  simp only [if_neg (show ¬ n ≤ 3 by omega), if_neg (show ¬ n ≤ 7 by omega), if_pos hn]
  rw [e1, e2]

theorem tile_turn (hn : (4 ≤ n ∧ n ≤ 7) ∨ n = 10) (e : Fin 4) (l : Fin 128) (off : Nat) (ho : off + 128 ≤ 512) (he : off = 128 * e.val)
    (h0 : n = 10 → off = 0) :
    tileOf n h w c s qg kg (ix2 r (⟨off + l.val, by omega⟩ : Fin 512)) = turned (k0_pay8 (F := Ideal) h w) c s r l off ho := by
  obtain ⟨e1, e2⟩ := headOf_cut r (k0_pay8 (F := Ideal) h w) e l off ho he ⟨off + l.val, by omega⟩ rfl
  rw [tile_row]
  unfold cell turned
  rw [e1, e2]
  rcases hn with hn | hn
  · simp only [if_neg (show ¬ n ≤ 3 by omega), if_pos hn.2]
  · have := h0 hn
    simp only [if_neg (show ¬ n ≤ 3 by omega), if_neg (show ¬ n ≤ 7 by omega), if_neg (show ¬ n = 8 by omega), if_pos hn,
      if_pos (show off + l.val < 128 by omega)]

theorem tile_w (hn : n = 10) (l : Fin 128) : tileOf n h w c s qg kg (ix2 r (⟨128 + l.val, by omega⟩ : Fin 512))
    = k0_pay8 (F := Ideal) h w (ix2 r (⟨128 + l.val, by omega⟩ : Fin 512)) * Ideal.ofBits FTy.f32 0x3CB504F3#32 := by
  rw [tile_row]
  unfold cell
  simp only [if_neg (show ¬ n ≤ 3 by omega), if_neg (show ¬ n ≤ 7 by omega), if_neg (show ¬ n = 8 by omega), if_pos hn,
    if_neg (show ¬ 128 + l.val < 128 by omega), if_pos (show 128 + l.val < 256 by omega)]

theorem tile_rest (hn : n = 10) (l : Fin 256) : tileOf n h w c s qg kg (ix2 r (⟨256 + l.val, by omega⟩ : Fin 512))
    = k0_pay8 (F := Ideal) h w (ix2 r (⟨256 + l.val, by omega⟩ : Fin 512)) := by
  rw [tile_row]
  unfold cell
  simp only [if_neg (show ¬ n ≤ 3 by omega), if_neg (show ¬ n ≤ 7 by omega), if_neg (show ¬ n = 8 by omega), if_pos hn,
    if_neg (show ¬ 256 + l.val < 128 by omega), if_neg (show ¬ 256 + l.val < 256 by omega)]

theorem tile_plain (hn : n = 9 ∨ 10 < n) : tileOf n h w c s qg kg = k0_pay8 (F := Ideal) h w := by
  refine funext fun (y : S1024x512.Idx) => ?_
  idx_vars y
  rw [tile_row]
  unfold cell
  simp only [if_neg (show ¬ n ≤ 3 by omega), if_neg (show ¬ n ≤ 7 by omega), if_neg (show ¬ n = 8 by omega), if_neg (show ¬ n = 10 by omega)]

end tile

end Cert.Kernel2Ideal.Val

end
-- ==== Proof.ProjBody.lean ====
/-
  What each grid point of the in-projection leaves: the tile `tileOf` of the hidden rows in the scratch, which the first column
  tile of a row tile fills and the others keep.
-/
module

public import proofs.«01_k».proof.Proof.ProjPay
public import Idealize.ShloMosaic.Lib.Pipeline.Value

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Cert.Proj

theorem hz2 : (![0, 0] : Fin 2 → Nat) = fun _ => 0 := by decide
theorem hz3 : (![0, 0, 0] : Fin 3 → Nat) = fun _ => 0 := by decide

/-- A block of columns stored at `off` is the tile's there when it is so index by index. -/
theorem piece {n : Nat} (G : Vec Ideal S1024x512 .f32) (P : (⟨2, ![1024, n]⟩ : Shape).Idx → EReal) (off : Nat) (ho : off + n ≤ 512)
    (hP : ∀ (r : Fin 1024) (l : Fin n), P (ix2 r l) = G (ix2 r (⟨off + l.val, by omega⟩ : Fin 512)))
    (inb : ∀ a, (![0, off] : Fin 2 → Nat) a + (⟨2, ![1024, n]⟩ : Shape).size a ≤ S1024x512.size a) (x : (⟨2, ![1024, n]⟩ : Shape).Idx) :
    P x = G ((Rect.unit (s := S1024x512) ![0, off] (⟨2, ![1024, n]⟩ : Shape).size inb).emb x) := by
  have e : x = ix2 (x 0 : Fin 1024) (x 1 : Fin n) := funext fun a => match a with | ⟨0, _⟩ => rfl | ⟨1, _⟩ => rfl
  refine (congrArg P e).trans ((hP _ _).trans (congrArg G (funext fun a => Fin.ext ?_)))
  match a with
  | ⟨0, _⟩ => show (x 0).val = 0 + 1 * (x 0).val; omega
  | ⟨1, _⟩ => show off + (x 1).val = off + 1 * (x 1).val; omega

/-! ## The blocks a point stores, case by case -/

section stored
variable (n : Nat) (h : Vec Ideal S1024x2048 .bf16) (w : Vec Ideal S2048x512 .bf16) (c s : Vec Ideal S1024x128 .f32) (qg kg : Vec Ideal S1x128 .f32)

/-- What a list of stored blocks should hold. -/
def Stored (L : List (View.Piece (Elt Ideal) S1024x512 .f32)) : Prop :=
  ∀ p ∈ L, ∀ x, p.2 x = tileOf n h w c s qg kg (p.1.emb x)

theorem stored_q (hn : n ≤ 3) : Stored n h w c s qg kg
    [⟨Rect.unit (s := S1024x512) ![0, 384] S1024x128.size inb_S1024x512_S1024x128_0_384, k0_pay12 (F := Ideal) h w c s qg⟩,
     ⟨Rect.unit (s := S1024x512) ![0, 256] S1024x128.size inb_S1024x512_S1024x128_0_256, k0_pay11 (F := Ideal) c s (k0_pay3 (F := Ideal) (k0_pay8 (F := Ideal) h w)) qg⟩,
     ⟨Rect.unit (s := S1024x512) ![0, 128] S1024x128.size inb_S1024x512_S1024x128_0_128, k0_pay2 (F := Ideal) (k0_pay8 (F := Ideal) h w) (k0_pay9 (F := Ideal) c) (k0_pay10 (F := Ideal) s) qg⟩,
     ⟨Rect.unit (s := S1024x512) ![0, 0] S1024x128.size inb_S1024x512_S1024x128_0_0, k0_pay1 (F := Ideal) (k0_pay8 (F := Ideal) h w) (k0_pay9 (F := Ideal) c) (k0_pay10 (F := Ideal) s) qg⟩] := by
  rw [pay9_eq, pay10_eq]
  refine List.forall_mem_cons.2 ⟨fun x => piece (tileOf n h w c s qg kg) _ 384 (by decide) (fun r l => (pay12_apply h w c s qg r l).trans (tile_q n h w c s qg kg r hn 3 l 384 _ rfl).symm) inb_S1024x512_S1024x128_0_384 x, ?_⟩
  refine List.forall_mem_cons.2 ⟨fun x => piece (tileOf n h w c s qg kg) _ 256 (by decide) (fun r l => (pay11_apply _ c s qg r l).trans (tile_q n h w c s qg kg r hn 2 l 256 _ rfl).symm) inb_S1024x512_S1024x128_0_256 x, ?_⟩
  refine List.forall_mem_cons.2 ⟨fun x => piece (tileOf n h w c s qg kg) _ 128 (by decide) (fun r l => (pay2_apply _ c s qg r l).trans (tile_q n h w c s qg kg r hn 1 l 128 _ rfl).symm) inb_S1024x512_S1024x128_0_128 x, ?_⟩
  refine List.forall_mem_cons.2 ⟨fun x => piece (tileOf n h w c s qg kg) _ 0 (by decide) (fun r l => (pay1_apply _ c s qg r l).trans (tile_q n h w c s qg kg r hn 0 l 0 _ rfl).symm) inb_S1024x512_S1024x128_0_0 x, ?_⟩
  exact fun p hp => absurd hp List.not_mem_nil

theorem stored_k (hn : n = 8) : Stored n h w c s qg kg
    [⟨Rect.unit (s := S1024x512) ![0, 384] S1024x128.size inb_S1024x512_S1024x128_0_384, k0_pay18 (F := Ideal) h w c s kg⟩,
     ⟨Rect.unit (s := S1024x512) ![0, 256] S1024x128.size inb_S1024x512_S1024x128_0_256, k0_pay17 (F := Ideal) c s (k0_pay6 (F := Ideal) (k0_pay8 (F := Ideal) h w)) kg⟩,
     ⟨Rect.unit (s := S1024x512) ![0, 128] S1024x128.size inb_S1024x512_S1024x128_0_128, k0_pay5 (F := Ideal) (k0_pay8 (F := Ideal) h w) (k0_pay9 (F := Ideal) c) (k0_pay10 (F := Ideal) s) kg⟩,
     ⟨Rect.unit (s := S1024x512) ![0, 0] S1024x128.size inb_S1024x512_S1024x128_0_0, k0_pay4 (F := Ideal) (k0_pay8 (F := Ideal) h w) (k0_pay9 (F := Ideal) c) (k0_pay10 (F := Ideal) s) kg⟩] := by
  rw [pay9_eq, pay10_eq, pay18_eq, pay17_eq, pay5_eq, pay4_eq]
  refine List.forall_mem_cons.2 ⟨fun x => piece (tileOf n h w c s qg kg) _ 384 (by decide) (fun r l => (pay12_apply h w c s kg r l).trans (tile_k n h w c s qg kg r hn 3 l 384 _ rfl).symm) inb_S1024x512_S1024x128_0_384 x, ?_⟩
  refine List.forall_mem_cons.2 ⟨fun x => piece (tileOf n h w c s qg kg) _ 256 (by decide) (fun r l => (pay11_apply _ c s kg r l).trans (tile_k n h w c s qg kg r hn 2 l 256 _ rfl).symm) inb_S1024x512_S1024x128_0_256 x, ?_⟩
  refine List.forall_mem_cons.2 ⟨fun x => piece (tileOf n h w c s qg kg) _ 128 (by decide) (fun r l => (pay2_apply _ c s kg r l).trans (tile_k n h w c s qg kg r hn 1 l 128 _ rfl).symm) inb_S1024x512_S1024x128_0_128 x, ?_⟩
  refine List.forall_mem_cons.2 ⟨fun x => piece (tileOf n h w c s qg kg) _ 0 (by decide) (fun r l => (pay1_apply _ c s kg r l).trans (tile_k n h w c s qg kg r hn 0 l 0 _ rfl).symm) inb_S1024x512_S1024x128_0_0 x, ?_⟩
  exact fun p hp => absurd hp List.not_mem_nil

theorem stored_turn (hn : 4 ≤ n ∧ n ≤ 7) : Stored n h w c s qg kg
    [⟨Rect.unit (s := S1024x512) ![0, 384] S1024x128.size inb_S1024x512_S1024x128_0_384, k0_pay16 (F := Ideal) h w c s⟩,
     ⟨Rect.unit (s := S1024x512) ![0, 256] S1024x128.size inb_S1024x512_S1024x128_0_256, k0_pay15 (F := Ideal) h w c s⟩,
     ⟨Rect.unit (s := S1024x512) ![0, 128] S1024x128.size inb_S1024x512_S1024x128_0_128, k0_pay14 (F := Ideal) h w c s⟩,
     ⟨Rect.unit (s := S1024x512) ![0, 0] S1024x128.size inb_S1024x512_S1024x128_0_0, k0_pay13 (F := Ideal) h w c s⟩] := by
  have h0 : n = 10 → False := by omega
  refine List.forall_mem_cons.2 ⟨fun x => piece (tileOf n h w c s qg kg) _ 384 (by decide) (fun r l => (pay16_apply h w c s r l).trans (tile_turn n h w c s qg kg r (.inl hn) 3 l 384 _ rfl (fun e => (h0 e).elim)).symm) inb_S1024x512_S1024x128_0_384 x, ?_⟩
  refine List.forall_mem_cons.2 ⟨fun x => piece (tileOf n h w c s qg kg) _ 256 (by decide) (fun r l => (pay15_apply h w c s r l).trans (tile_turn n h w c s qg kg r (.inl hn) 2 l 256 _ rfl (fun e => (h0 e).elim)).symm) inb_S1024x512_S1024x128_0_256 x, ?_⟩
  refine List.forall_mem_cons.2 ⟨fun x => piece (tileOf n h w c s qg kg) _ 128 (by decide) (fun r l => (pay14_apply h w c s r l).trans (tile_turn n h w c s qg kg r (.inl hn) 1 l 128 _ rfl (fun e => (h0 e).elim)).symm) inb_S1024x512_S1024x128_0_128 x, ?_⟩
  refine List.forall_mem_cons.2 ⟨fun x => piece (tileOf n h w c s qg kg) _ 0 (by decide) (fun r l => (pay13_apply h w c s r l).trans (tile_turn n h w c s qg kg r (.inl hn) 0 l 0 _ rfl (fun _ => rfl)).symm) inb_S1024x512_S1024x128_0_0 x, ?_⟩
  exact fun p hp => absurd hp List.not_mem_nil

theorem stored_mix (hn : n = 10) : Stored n h w c s qg kg
    [⟨Rect.unit (s := S1024x512) ![0, 256] S1024x256.size inb_S1024x512_S1024x256_0_256, k0_pay21 (F := Ideal) h w⟩,
     ⟨Rect.unit (s := S1024x512) ![0, 128] S1024x128.size inb_S1024x512_S1024x128_0_128, k0_pay20 (F := Ideal) h w⟩,
     ⟨Rect.unit (s := S1024x512) ![0, 0] S1024x128.size inb_S1024x512_S1024x128_0_0, k0_pay19 (F := Ideal) h w c s⟩] := by
  rw [pay19_eq]
  refine List.forall_mem_cons.2 ⟨fun x => piece (tileOf n h w c s qg kg) _ 256 (by decide) (fun r l => (pay21_apply h w r l).trans (tile_rest n h w c s qg kg r hn l).symm) inb_S1024x512_S1024x256_0_256 x, ?_⟩
  refine List.forall_mem_cons.2 ⟨fun x => piece (tileOf n h w c s qg kg) _ 128 (by decide) (fun r l => (pay20_apply h w r l).trans (tile_w n h w c s qg kg r hn l).symm) inb_S1024x512_S1024x128_0_128 x, ?_⟩
  refine List.forall_mem_cons.2 ⟨fun x => piece (tileOf n h w c s qg kg) _ 0 (by decide) (fun r l => (pay13_apply h w c s r l).trans (tile_turn n h w c s qg kg r (.inr hn) 0 l 0 _ rfl (fun _ => rfl)).symm) inb_S1024x512_S1024x128_0_0 x, ?_⟩
  exact fun p hp => absurd hp List.not_mem_nil

theorem stored_plain (hn : n = 9 ∨ 10 < n) : Stored n h w c s qg kg
    [⟨Rect.unit (s := S1024x512) ![0, 0] S1024x512.size inb_S1024x512_S1024x512_0_0, k0_pay8 (F := Ideal) h w⟩] := by
  refine List.forall_mem_cons.2 ⟨fun x => piece (tileOf n h w c s qg kg) _ 0 (by decide) (fun r l => ?_) inb_S1024x512_S1024x512_0_0 x, ?_⟩
  · rw [tile_plain n h w c s qg kg hn]
    exact congrArg (fun q => k0_pay8 (F := Ideal) h w (ix2 r q)) (Fin.ext (by show l.val = 0 + l.val; omega))
  · exact fun p hp => absurd hp List.not_mem_nil

end stored

/-! ## A point's tile and scratch -/

variable (m : (ℓ : Loc nD τ sig) → Buf (Elt Ideal) ℓ)

/-- The scratch read whole. -/
theorem scratch_read (x : Vec Ideal S1024x2048 .bf16) :
    View.read (Elt Ideal) (View.whole cc0_scratch0) ((Memref.isWhole_whole cc0_scratch0).unread x) = x :=
  Memref.IsWhole.read_unread (Memref.isWhole_whole cc0_scratch0) x

/-- What the scratch holds after point `t`: new hidden rows at a row tile's first column tile, the rows of the point before at the others. -/
def hidAfter (c : Dev nD) (t : Fin cfg0.N) : Vec Ideal S1024x2048 .bf16 :=
  if t.val % 21 = 0 then hidTile (iblk m c 0 t) (iblk m c 1 t) (iblk m c 2 t) (iblk m c 3 t)
  else (outsAt0 m c (t.val - 1) (Nat.lt_of_le_of_lt (Nat.sub_le _ _) t.isLt)).2

/-- Point `t`'s tile, from the rows the scratch holds after it. -/
def tileAt (c : Dev nD) (t : Fin cfg0.N) (h : Vec Ideal S1024x2048 .bf16) : Vec Ideal S1024x512 .f32 :=
  tileOf (t.val % 21) h (iblk m c 4 t) (iblk m c 5 t) (iblk m c 6 t) (iblk m c 7 t) (iblk m c 8 t)

set_option maxHeartbeats 4000000 in
theorem outs_A (c : Dev nD) (t : Fin cfg0.N) (h : t.val % 21 = 0) :
    outsAt0 m c t.val t.isLt = (tileAt m c t (hidAfter m c t), hidAfter m c t) := by
  unfold hidAfter tileAt
  rw [outsAt0_A m c t (by omega) (by omega) (by omega) (by omega) (by omega) (by omega), if_pos h]
  refine Prod.ext ?_ ?_
  · dsimp only
    unfold out0_A_9
    rw [View.read_writes_eq_canon _ _ _ (cover0_A_9 _ _ _ _ _ _ _ _ _ _ _ _ _ _ _ _ _ _ _ _ _ _ _ _ _ _ _ _ _ _ _ _ _ _ _ _ _ _ _)]
    funext y
    refine View.canon_apply_of_pieces (Val := Elt Ideal) (S := S1024x512) (e := .f32) _ _ ?_ y (cover0_A_9 _ _ _ _ _ _ _ _ _ _ _ _ _ _ _ _ _ _ _ _ _ _ _ _ _ _ _ _ _ _ _ _ _ _ _ _ _ _ _ _)
    unfold kernelRun0_A
    dsimp only
    sl_unfold_words
    simp only [View.readAt_eq_ld, Memref.IsWhole.read_unread, scratch_read, View.readCov_cons_toLoadRect, pay7_eq, View.ld_unit_zero (S := S1024x2048) hz2, View.ld_unit_zero (S := S2048x512) hz2, View.ld_unit_zero (S := S1024x128) hz2,
    View.ld_unit_zero (S := S1x2048) hz2, View.ld_unit_zero (S := S1x128) hz2, View.ld_unit_zero (S := S1x1x2048) hz3]
    exact stored_q _ _ _ _ _ _ _ (by omega)
  · dsimp only
    unfold sout0_A_0
    rw [View.read_writes_eq_canon _ _ _ (scover0_A_0 _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, Memref.IsWhole.read_unread, View.ld_unit_zero (S := S1024x2048) hz2, View.ld_unit_zero (S := S2048x512) hz2, View.ld_unit_zero (S := S1024x128) hz2,
    View.ld_unit_zero (S := S1x2048) hz2, View.ld_unit_zero (S := S1x128) hz2, View.ld_unit_zero (S := S1x1x2048) hz3]
    exact (View.canon_cons_unit_zero (S := S1024x2048) hz2 _ _ _).trans (pay7_eq _ _ _ _)

set_option maxHeartbeats 4000000 in
theorem outs_B (c : Dev nD) (t : Fin cfg0.N) (h : 1 ≤ t.val % 21 ∧ t.val % 21 ≤ 3) :
    outsAt0 m c t.val t.isLt = (tileAt m c t (hidAfter m c t), hidAfter m c t) := by
  unfold hidAfter tileAt
  rw [outsAt0_B m c t (by omega) (by omega) (by omega) (by omega) (by omega) (by omega), if_neg (show ¬ t.val % 21 = 0 by omega)]
  refine Prod.ext ?_ ?_
  · dsimp only
    unfold out0_B_9
    rw [View.read_writes_eq_canon _ _ _ (cover0_B_9 _ _ _ _ _ _ _ _ _ _ _ _ _ _ _ _ _ _ _ _ _ _ _ _ _ _ _ _ _ _ _ _ _ _ _ _ _ _ _ _)]
    funext y
    refine View.canon_apply_of_pieces (Val := Elt Ideal) (S := S1024x512) (e := .f32) _ _ ?_ y (cover0_B_9 _ _ _ _ _ _ _ _ _ _ _ _ _ _ _ _ _ _ _ _ _ _ _ _ _ _ _ _ _ _ _ _ _ _ _ _ _ _ _ _ _)
    unfold kernelRun0_B
    dsimp only
    sl_unfold_words
    simp only [View.readAt_eq_ld, Memref.IsWhole.read_unread, scratch_read, View.readCov_cons_toLoadRect, pay7_eq, View.ld_unit_zero (S := S1024x2048) hz2, View.ld_unit_zero (S := S2048x512) hz2, View.ld_unit_zero (S := S1024x128) hz2,
    View.ld_unit_zero (S := S1x2048) hz2, View.ld_unit_zero (S := S1x128) hz2, View.ld_unit_zero (S := S1x1x2048) hz3]
    exact stored_q _ _ _ _ _ _ _ (by omega)
  · rfl

set_option maxHeartbeats 4000000 in
theorem outs_C (c : Dev nD) (t : Fin cfg0.N) (h : 4 ≤ t.val % 21 ∧ t.val % 21 ≤ 7) :
    outsAt0 m c t.val t.isLt = (tileAt m c t (hidAfter m c t), hidAfter m c t) := by
  unfold hidAfter tileAt
  rw [outsAt0_C m c t (by omega) (by omega) (by omega) (by omega) (by omega) (by omega), if_neg (show ¬ t.val % 21 = 0 by omega)]
  refine Prod.ext ?_ ?_
  · dsimp only
    unfold out0_C_9
    rw [View.read_writes_eq_canon _ _ _ (cover0_C_9 _ _ _ _ _ _ _ _ _ _ _ _ _ _ _ _ _ _ _ _ _ _ _ _ _ _ _ _ _ _ _ _ _ _ _ _ _ _ _ _)]
    funext y
    refine View.canon_apply_of_pieces (Val := Elt Ideal) (S := S1024x512) (e := .f32) _ _ ?_ y (cover0_C_9 _ _ _ _ _ _ _ _ _ _ _ _ _ _ _ _ _ _ _ _ _ _ _ _ _ _ _ _ _ _ _ _ _ _ _ _ _ _ _ _ _)
    unfold kernelRun0_C
    dsimp only
    sl_unfold_words
    simp only [View.readAt_eq_ld, Memref.IsWhole.read_unread, scratch_read, View.readCov_cons_toLoadRect, pay7_eq, View.ld_unit_zero (S := S1024x2048) hz2, View.ld_unit_zero (S := S2048x512) hz2, View.ld_unit_zero (S := S1024x128) hz2,
    View.ld_unit_zero (S := S1x2048) hz2, View.ld_unit_zero (S := S1x128) hz2, View.ld_unit_zero (S := S1x1x2048) hz3]
    exact stored_turn _ _ _ _ _ _ _ (by omega)
  · rfl

set_option maxHeartbeats 4000000 in
theorem outs_D (c : Dev nD) (t : Fin cfg0.N) (h : t.val % 21 = 8) :
    outsAt0 m c t.val t.isLt = (tileAt m c t (hidAfter m c t), hidAfter m c t) := by
  unfold hidAfter tileAt
  rw [outsAt0_D m c t (by omega) (by omega) (by omega) (by omega) (by omega) (by omega), if_neg (show ¬ t.val % 21 = 0 by omega)]
  refine Prod.ext ?_ ?_
  · dsimp only
    unfold out0_D_9
    rw [View.read_writes_eq_canon _ _ _ (cover0_D_9 _ _ _ _ _ _ _ _ _ _ _ _ _ _ _ _ _ _ _ _ _ _ _ _ _ _ _ _ _ _ _ _ _ _ _ _ _ _ _ _)]
    funext y
    refine View.canon_apply_of_pieces (Val := Elt Ideal) (S := S1024x512) (e := .f32) _ _ ?_ y (cover0_D_9 _ _ _ _ _ _ _ _ _ _ _ _ _ _ _ _ _ _ _ _ _ _ _ _ _ _ _ _ _ _ _ _ _ _ _ _ _ _ _ _ _)
    unfold kernelRun0_D
    dsimp only
    sl_unfold_words
    simp only [View.readAt_eq_ld, Memref.IsWhole.read_unread, scratch_read, View.readCov_cons_toLoadRect, pay7_eq, View.ld_unit_zero (S := S1024x2048) hz2, View.ld_unit_zero (S := S2048x512) hz2, View.ld_unit_zero (S := S1024x128) hz2,
    View.ld_unit_zero (S := S1x2048) hz2, View.ld_unit_zero (S := S1x128) hz2, View.ld_unit_zero (S := S1x1x2048) hz3]
    exact stored_k _ _ _ _ _ _ _ (by omega)
  · rfl

set_option maxHeartbeats 4000000 in
theorem outs_E (c : Dev nD) (t : Fin cfg0.N) (h : t.val % 21 = 9 ∨ 10 < t.val % 21) :
    outsAt0 m c t.val t.isLt = (tileAt m c t (hidAfter m c t), hidAfter m c t) := by
  unfold hidAfter tileAt
  rw [outsAt0_E m c t (by omega) (by omega) (by omega) (by omega) (by omega) (by omega), if_neg (show ¬ t.val % 21 = 0 by omega)]
  refine Prod.ext ?_ ?_
  · dsimp only
    unfold out0_E_9
    rw [View.read_writes_eq_canon _ _ _ (cover0_E_9 _ _ _ _ _ _ _ _ _ _ _ _ _ _ _ _ _ _ _ _ _ _ _ _ _ _ _ _ _ _ _ _ _ _ _ _ _ _ _ _)]
    funext y
    refine View.canon_apply_of_pieces (Val := Elt Ideal) (S := S1024x512) (e := .f32) _ _ ?_ y (cover0_E_9 _ _ _ _ _ _ _ _ _ _ _ _ _ _ _ _ _ _ _ _ _ _ _ _ _ _ _ _ _ _ _ _ _ _ _ _ _ _ _ _ _)
    unfold kernelRun0_E
    dsimp only
    sl_unfold_words
    simp only [View.readAt_eq_ld, Memref.IsWhole.read_unread, scratch_read, View.readCov_cons_toLoadRect, pay7_eq, View.ld_unit_zero (S := S1024x2048) hz2, View.ld_unit_zero (S := S2048x512) hz2, View.ld_unit_zero (S := S1024x128) hz2,
    View.ld_unit_zero (S := S1x2048) hz2, View.ld_unit_zero (S := S1x128) hz2, View.ld_unit_zero (S := S1x1x2048) hz3]
    exact stored_plain _ _ _ _ _ _ _ (by omega)
  · rfl

set_option maxHeartbeats 4000000 in
theorem outs_F (c : Dev nD) (t : Fin cfg0.N) (h : t.val % 21 = 10) :
    outsAt0 m c t.val t.isLt = (tileAt m c t (hidAfter m c t), hidAfter m c t) := by
  unfold hidAfter tileAt
  rw [outsAt0_F m c t (by omega) (by omega) (by omega) (by omega) (by omega) (by omega), if_neg (show ¬ t.val % 21 = 0 by omega)]
  refine Prod.ext ?_ ?_
  · dsimp only
    unfold out0_F_9
    rw [View.read_writes_eq_canon _ _ _ (cover0_F_9 _ _ _ _ _ _ _ _ _ _ _ _ _ _ _ _ _ _ _ _ _ _ _ _ _ _ _ _ _ _ _ _ _ _ _ _ _ _ _ _)]
    funext y
    refine View.canon_apply_of_pieces (Val := Elt Ideal) (S := S1024x512) (e := .f32) _ _ ?_ y (cover0_F_9 _ _ _ _ _ _ _ _ _ _ _ _ _ _ _ _ _ _ _ _ _ _ _ _ _ _ _ _ _ _ _ _ _ _ _ _ _ _ _ _ _)
    unfold kernelRun0_F
    dsimp only
    sl_unfold_words
    simp only [View.readAt_eq_ld, Memref.IsWhole.read_unread, scratch_read, View.readCov_cons_toLoadRect, pay7_eq, View.ld_unit_zero (S := S1024x2048) hz2, View.ld_unit_zero (S := S2048x512) hz2, View.ld_unit_zero (S := S1024x128) hz2,
    View.ld_unit_zero (S := S1x2048) hz2, View.ld_unit_zero (S := S1x128) hz2, View.ld_unit_zero (S := S1x1x2048) hz3]
    exact stored_mix _ _ _ _ _ _ _ (by omega)
  · rfl

/-- Every point. -/
theorem outs_eq (c : Dev nD) (t : Fin cfg0.N) : outsAt0 m c t.val t.isLt = (tileAt m c t (hidAfter m c t), hidAfter m c t) := by
  have h : t.val % 21 = 0 ∨ (1 ≤ t.val % 21 ∧ t.val % 21 ≤ 3) ∨ (4 ≤ t.val % 21 ∧ t.val % 21 ≤ 7) ∨ t.val % 21 = 8
      ∨ (t.val % 21 = 9 ∨ 10 < t.val % 21) ∨ t.val % 21 = 10 := by omega
  rcases h with h | h | h | h | h | h
  · exact outs_A m c t h
  · exact outs_B m c t h
  · exact outs_C m c t h
  · exact outs_D m c t h
  · exact outs_E m c t h
  · exact outs_F m c t h

end Cert.Kernel2Ideal.Val

end
-- ==== Proof.Tiles.lean ====
/-
  Two-dimensional tiles: the place in an array of an element of one of its blocks.
-/
module

public import Idealize.ShloMosaic.Lib.Pipeline.Value
public import Idealize.ShloMosaic.Lib.Pointwise

@[expose] public section

namespace Cert.Tiles

open Idealize.ShloMosaic

/-- An element of the block at `(q0, q1)` of a matrix cut into blocks, from its place in the block. -/
theorem tile_ix {d0 d1 b0 b1 q0 q1 : Nat} (f : Fin 2 → Nat) (hf : f = ![q0, q1]) (j : (⟨2, ![b0, b1]⟩ : Shape).Idx)
    (i : (⟨2, ![d0, d1]⟩ : Shape).Idx) (hi : ∀ a, (i a).val = f a * (⟨2, ![b0, b1]⟩ : Shape).size a + 1 * (j a).val)
    (x0 : Fin d0) (x1 : Fin d1) (h0 : x0.val = q0 * b0 + (j 0).val) (h1 : x1.val = q1 * b1 + (j 1).val) : i = ix2 x0 x1 := by
  subst hf
  funext a
  refine Fin.ext ((hi a).trans ?_)
  match a with
  | ⟨0, _⟩ => show q0 * b0 + 1 * (j 0).val = x0.val; omega
  | ⟨1, _⟩ => show q1 * b1 + 1 * (j 1).val = x1.val; omega

/-- The same of a one-row block in a stack of one-row matrices. -/
theorem tile_ix3 {d0 d1 d2 b0 b1 b2 q0 q1 q2 : Nat} (f : Fin 3 → Nat) (hf : f = ![q0, q1, q2])
    (j : (⟨3, ![b0, b1, b2]⟩ : Shape).Idx) (i : (⟨3, ![d0, d1, d2]⟩ : Shape).Idx)
    (hi : ∀ a, (i a).val = f a * (⟨3, ![b0, b1, b2]⟩ : Shape).size a + 1 * (j a).val)
    (x0 : Fin d0) (x1 : Fin d1) (x2 : Fin d2) (h0 : x0.val = q0 * b0 + (j 0).val) (h1 : x1.val = q1 * b1 + (j 1).val)
    (h2 : x2.val = q2 * b2 + (j 2).val) : i = ix3 x0 x1 x2 := by
  subst hf
  funext a
  refine Fin.ext ((hi a).trans ?_)
  match a with
  | ⟨0, _⟩ => show q0 * b0 + 1 * (j 0).val = x0.val; omega
  | ⟨1, _⟩ => show q1 * b1 + 1 * (j 1).val = x1.val; omega
  | ⟨2, _⟩ => show q2 * b2 + 1 * (j 2).val = x2.val; omega

/-- A matrix index lies in the block at `(q0, q1)` when each coordinate lies in the block's range. -/
theorem mem_tile {d0 d1 b0 b1 q0 q1 : Nat} (f : Fin 2 → Nat) (hf : f = ![q0, q1]) (i : (⟨2, ![d0, d1]⟩ : Shape).Idx)
    (h0 : q0 * b0 ≤ (i 0).val ∧ (i 0).val < q0 * b0 + b0) (h1 : q1 * b1 ≤ (i 1).val ∧ (i 1).val < q1 * b1 + b1) (a : Fin 2) :
    f a * (⟨2, ![b0, b1]⟩ : Shape).size a ≤ (i a).val
      ∧ (i a).val < f a * (⟨2, ![b0, b1]⟩ : Shape).size a + (⟨2, ![b0, b1]⟩ : Shape).size a := by
  subst hf
  match a with
  | ⟨0, _⟩ => exact h0
  | ⟨1, _⟩ => exact h1

/-- A matrix laid from pieces side by side, read at a column of piece `i`, which begins at column `pre`. -/
theorem piece2 {α : Type} {d0 d1 n : Nat} (xs : List ((s : Shape) × (s.Idx → α)))
    (h : Shape.Concatenates (xs.map (·.1)) ⟨2, ![d0, d1]⟩ (1 : Fin 2)) (k : Fin d0) (c : Fin d1) (i : Nat) (hi : i < xs.length)
    (x : (⟨2, ![d0, n]⟩ : Shape).Idx → α) (hx : xs[i] = ⟨⟨2, ![d0, n]⟩, x⟩) (pre : Nat)
    (hpre : (((xs.take i).map (·.1)).map fun s => if h : s.rank = 2 then s.size ((1 : Fin 2).cast h.symm) else 0).sum = pre)
    (c' : Fin n) (hc : pre + c'.val = c.val) : concatenate ⟨2, ![d0, d1]⟩ (1 : Fin 2) xs h (ix2 k c) = x (ix2 k c') :=
  concatenate_apply_piece (t := ⟨2, ![d0, d1]⟩) (1 : Fin 2) xs h (ix2 k c) i hi _ x hx rfl pre hpre (ix2 k c')
    (fun b hb => match b with | ⟨0, _⟩ => rfl | ⟨1, _⟩ => absurd rfl hb) hc

/-- The same of a stack of matrices laid side by side along the last axis. -/
theorem piece3 {α : Type} {d0 d1 d2 n : Nat} (xs : List ((s : Shape) × (s.Idx → α)))
    (h : Shape.Concatenates (xs.map (·.1)) ⟨3, ![d0, d1, d2]⟩ (2 : Fin 3)) (b : Fin d0) (k : Fin d1) (c : Fin d2) (i : Nat)
    (hi : i < xs.length) (x : (⟨3, ![d0, d1, n]⟩ : Shape).Idx → α) (hx : xs[i] = ⟨⟨3, ![d0, d1, n]⟩, x⟩) (pre : Nat)
    (hpre : (((xs.take i).map (·.1)).map fun s => if h : s.rank = 3 then s.size ((2 : Fin 3).cast h.symm) else 0).sum = pre)
    (c' : Fin n) (hc : pre + c'.val = c.val) : concatenate ⟨3, ![d0, d1, d2]⟩ (2 : Fin 3) xs h (ix3 b k c) = x (ix3 b k c') :=
  concatenate_apply_piece (t := ⟨3, ![d0, d1, d2]⟩) (2 : Fin 3) xs h (ix3 b k c) i hi _ x hx rfl pre hpre (ix3 b k c')
    (fun e he => match e with | ⟨0, _⟩ => rfl | ⟨1, _⟩ => rfl | ⟨2, _⟩ => absurd rfl he) hc

/-- A block of a matrix's columns read at an index. -/
theorem cols_apply {α : Type} {d0 d1 n off : Nat} (w : (⟨2, ![d0, d1]⟩ : Shape).Idx → α)
    (h : (⟨2, ![d0, d1]⟩ : Shape).Slices ![0, off] ⟨2, ![d0, n]⟩) (k : Fin d0) (c : Fin n) (i : Fin d1) (hi : i.val = off + c.val) :
    extractStridedSlice ⟨2, ![d0, n]⟩ ![0, off] w h (ix2 k c) = w (ix2 k i) := by
  refine congrArg w (funext fun a => Fin.ext ?_)
  match a with
  | ⟨0, _⟩ => show 0 + k.val = k.val; omega
  | ⟨1, _⟩ => exact hi.symm

end Cert.Tiles
-- ==== Proof.ProjHost.lean ====
/-
  The arrays the in-projection's call takes: the packed weight, the rotary tables and the rows, read at an index.
-/
module

public import proofs.«01_k».proof.Proof.Gen.Kernel2Ideal.Frame
public import proofs.«01_k».proof.Proof.ProjSpec
public import proofs.«01_k».proof.Proof.Tiles

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Cert.Proj Cert.Tiles

/-- The angles as the tables are made from. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- The weight in the packed order, before it is rounded. -/
def packedW (w : FVec Ideal S2048x10384 .f32) : FVec Ideal S2048x10752 .f32 :=
  concatenate S2048x10752 1 [⟨S2048x2048, extractStridedSlice S2048x2048 ![0, 0] w slices_S2048x10384_S2048x2048_0_0⟩,
    ⟨S2048x2048, extractStridedSlice S2048x2048 ![0, 3072] w slices_S2048x10384_S2048x2048_0_3072⟩,
    ⟨S2048x512, extractStridedSlice S2048x512 ![0, 2048] w slices_S2048x10384_S2048x512_0_2048⟩,
    ⟨S2048x512, extractStridedSlice S2048x512 ![0, 2560] w slices_S2048x10384_S2048x512_0_2560⟩,
    ⟨S2048x128, extractStridedSlice S2048x128 ![0, 5120] w slices_S2048x10384_S2048x128_0_5120⟩,
    ⟨S2048x16, extractStridedSlice S2048x16 ![0, 5248] w slices_S2048x10384_S2048x16_0_5248⟩,
    ⟨S2048x112, broadcastInDim S2048x112 ![] bcast_S_S2048x112 (constant (F := Ideal) S_ .f32 0x00000000#32)⟩,
    ⟨S2048x1024, extractStridedSlice S2048x1024 ![0, 5264] w slices_S2048x10384_S2048x1024_0_5264⟩,
    ⟨S2048x256, broadcastInDim S2048x256 ![] bcast_S_S2048x256 (constant (F := Ideal) S_ .f32 0x00000000#32)⟩,
    ⟨S2048x2048, extractStridedSlice S2048x2048 ![0, 6288] w slices_S2048x10384_S2048x2048_0_6288⟩,
    ⟨S2048x2048, extractStridedSlice S2048x2048 ![0, 8336] w slices_S2048x10384_S2048x2048_0_8336⟩]
    concatenates_S2048x2048_S2048x2048_S2048x512_S2048x512_S2048x128_S2048x16_S2048x112_S2048x1024_S2048x256_S2048x2048_S2048x2048_S2048x10752_d1

set_option maxHeartbeats 4000000 in
/-- The packed weight at a column: each piece of the concatenation is a block of the columns, or zero. -/
theorem packedW_apply (w : FVec Ideal S2048x10384 .f32) (k : Fin 2048) (c : Fin 10752) : packedW w (ix2 k c) = packed w k c := by
  have hc := c.isLt
  unfold packedW packed
  refine
    if h0 : c.val < 2048 then (piece2 _ _ k c 0 (by show 0 < 11; decide) _ rfl 0 rfl ⟨c.val - 0, by omega⟩ (by dsimp only; omega)).trans ?_ else
    if h1 : c.val < 4096 then (piece2 _ _ k c 1 (by show 1 < 11; decide) _ rfl 2048 rfl ⟨c.val - 2048, by omega⟩ (by dsimp only; omega)).trans ?_ else
    if h2 : c.val < 4608 then (piece2 _ _ k c 2 (by show 2 < 11; decide) _ rfl 4096 rfl ⟨c.val - 4096, by omega⟩ (by dsimp only; omega)).trans ?_ else
    if h3 : c.val < 5120 then (piece2 _ _ k c 3 (by show 3 < 11; decide) _ rfl 4608 rfl ⟨c.val - 4608, by omega⟩ (by dsimp only; omega)).trans ?_ else
    if h4 : c.val < 5248 then (piece2 _ _ k c 4 (by show 4 < 11; decide) _ rfl 5120 rfl ⟨c.val - 5120, by omega⟩ (by dsimp only; omega)).trans ?_ else
    if h5 : c.val < 5264 then (piece2 _ _ k c 5 (by show 5 < 11; decide) _ rfl 5248 rfl ⟨c.val - 5248, by omega⟩ (by dsimp only; omega)).trans ?_ else
    if h6 : c.val < 5376 then (piece2 _ _ k c 6 (by show 6 < 11; decide) _ rfl 5264 rfl ⟨c.val - 5264, by omega⟩ (by dsimp only; omega)).trans ?_ else
    if h7 : c.val < 6400 then (piece2 _ _ k c 7 (by show 7 < 11; decide) _ rfl 5376 rfl ⟨c.val - 5376, by omega⟩ (by dsimp only; omega)).trans ?_ else
    if h8 : c.val < 6656 then (piece2 _ _ k c 8 (by show 8 < 11; decide) _ rfl 6400 rfl ⟨c.val - 6400, by omega⟩ (by dsimp only; omega)).trans ?_ else
    if h9 : c.val < 8704 then (piece2 _ _ k c 9 (by show 9 < 11; decide) _ rfl 6656 rfl ⟨c.val - 6656, by omega⟩ (by dsimp only; omega)).trans ?_ else
    (piece2 _ _ k c 10 (by show 10 < 11; decide) _ rfl 8704 rfl ⟨c.val - 8704, by omega⟩ (by dsimp only; omega)).trans ?_
  all_goals
    split_ifs <;> first
      | (exfalso; omega)
      | exact cols_apply w _ k _ _ (by dsimp only; omega)
      | pointwise []

variable (m : (ℓ : Loc nD τ sig) → Buf (Elt Ideal) ℓ)

theorem V_x (c : Dev nD) : (V m c main_v18 : Vec Ideal S16384x2048 .f32)
    = shapeCast _ (m ((c : Thread nD τ).loc main_arg0)) shapeCasts_S8x2048x2048_S16384x2048 := by
  unfold_abbrev_sides
  after_results <;> rfl

theorem V_g (c : Dev nD) : (V m c main_v32 : Vec Ideal S1x2048 .f32)
    = shapeCast _ (m ((c : Thread nD τ).loc main_arg3)) shapeCasts_S2048_S1x2048 := by
  unfold_abbrev_sides
  after_results <;> rfl

theorem V_qg (c : Dev nD) : (V m c main_v33 : Vec Ideal S1x128 .f32)
    = shapeCast _ (m ((c : Thread nD τ).loc main_arg5)) shapeCasts_S128_S1x128 := by
  unfold_abbrev_sides
  after_results <;> rfl

theorem V_kg (c : Dev nD) : (V m c main_v34 : Vec Ideal S1x128 .f32)
    = shapeCast _ (m ((c : Thread nD τ).loc main_arg6)) shapeCasts_S128_S1x128 := by
  unfold_abbrev_sides
  after_results <;> rfl

theorem V_cos (c : Dev nD) : (V m c main_v15 : Vec Ideal S2048x128 .f32)
    = concatenate S2048x128 1 [⟨S2048x64, Host.cos (F := Ideal) (φ := .f32) angles⟩, ⟨S2048x64, Host.cos (F := Ideal) (φ := .f32) angles⟩]
        concatenates_S2048x64_S2048x64_S2048x128_d1 := by
  unfold_abbrev_sides
  after_results <;> rfl

theorem V_sin (c : Dev nD) : (V m c main_v17 : Vec Ideal S2048x128 .f32)
    = concatenate S2048x128 1 [⟨S2048x64, Host.negf (F := Ideal) (φ := .f32) (Host.sin (F := Ideal) (φ := .f32) angles)⟩,
        ⟨S2048x64, Host.sin (F := Ideal) (φ := .f32) angles⟩] concatenates_S2048x64_S2048x64_S2048x128_d1 := by
  unfold_abbrev_sides
  after_results <;> rfl

theorem V_w (c : Dev nD) : (V m c main_v31 : Vec Ideal S2048x10752 .bf16)
    = (truncf (F := Ideal) .bf16 (packedW (m ((c : Thread nD τ).loc main_arg4))) bitsLt_bf16_f32 : FVec Ideal S2048x10752 .bf16) := by
  unfold_abbrev_sides
  after_results <;> rfl

/-! ## Read at an index -/

theorem x_apply (x : Vec Ideal S8x2048x2048 .f32) (r : Fin 16384) (l : Fin 2048) :
    (shapeCast S16384x2048 x shapeCasts_S8x2048x2048_S16384x2048 : Vec Ideal S16384x2048 .f32) (ix2 r l)
      = x (ix3 (⟨r.val / 2048, by omega⟩ : Fin 8) (⟨r.val % 2048, by omega⟩ : Fin 2048) l) := by
  pointwise []

theorem g_apply (g : Vec Ideal S2048 .f32) (l : Fin 2048) :
    (shapeCast S1x2048 g shapeCasts_S2048_S1x2048 : Vec Ideal S1x2048 .f32) (ix2 (0 : Fin 1) l) = g (ix1 l) := by
  pointwise []

theorem hg_apply (g : Vec Ideal S128 .f32) (l : Fin 128) :
    (shapeCast S1x128 g shapeCasts_S128_S1x128 : Vec Ideal S1x128 .f32) (ix2 (0 : Fin 1) l) = g (ix1 l) := by
  pointwise []

theorem cos_apply (p : Fin 2048) (l : Fin 128) :
    (concatenate S2048x128 1 [⟨S2048x64, Host.cos (F := Ideal) (φ := .f32) angles⟩, ⟨S2048x64, Host.cos (F := Ideal) (φ := .f32) angles⟩]
        concatenates_S2048x64_S2048x64_S2048x128_d1 : Vec Ideal S2048x128 .f32) (ix2 p l) = cosT p l := by
  pointwise [angles]
  rfl

theorem sin_apply (p : Fin 2048) (l : Fin 128) :
    (concatenate S2048x128 1 [⟨S2048x64, Host.negf (F := Ideal) (φ := .f32) (Host.sin (F := Ideal) (φ := .f32) angles)⟩,
        ⟨S2048x64, Host.sin (F := Ideal) (φ := .f32) angles⟩] concatenates_S2048x64_S2048x64_S2048x128_d1 : Vec Ideal S2048x128 .f32) (ix2 p l)
      = sinT p l := by
  pointwise [angles]
  rfl

end Cert.Kernel2Ideal.Val

end
-- ==== Proof.ProjRun.lean ====
/-
  The in-projection's grid: the rows the scratch carries, the tile every point writes, and the tiles cover the result.
-/
module

public import proofs.«01_k».proof.Proof.Gen.Kernel2Ideal.Value
public import proofs.«01_k».proof.Proof.ProjBody
public import proofs.«01_k».proof.Proof.ProjHost

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Cert.Proj Cert.Tiles

/-! ## The blocks' places -/

theorem idx_0 : ∀ t : Fin cfg0.N, win0_0.index t = ![t.val / 21, 0] := (by decide +kernel : ∀ t : Fin grid0.N, win0_0.index t = ![t.val / 21, 0])
theorem idx_1 : ∀ t : Fin cfg0.N, win0_1.index t = ![t.val / 21 / 2, 0, 0] := (by decide +kernel : ∀ t : Fin grid0.N, win0_1.index t = ![t.val / 21 / 2, 0, 0])
theorem idx_2 : ∀ t : Fin cfg0.N, win0_2.index t = ![t.val / 21 / 2, 0, 0] := (by decide +kernel : ∀ t : Fin grid0.N, win0_2.index t = ![t.val / 21 / 2, 0, 0])
theorem idx_3 : ∀ t : Fin cfg0.N, win0_3.index t = ![0, 0] := (by decide +kernel : ∀ t : Fin grid0.N, win0_3.index t = ![0, 0])
theorem idx_4 : ∀ t : Fin cfg0.N, win0_4.index t = ![0, t.val % 21] := (by decide +kernel : ∀ t : Fin grid0.N, win0_4.index t = ![0, t.val % 21])
theorem idx_5 : ∀ t : Fin cfg0.N, win0_5.index t = ![t.val / 21 % 2, 0] := (by decide +kernel : ∀ t : Fin grid0.N, win0_5.index t = ![t.val / 21 % 2, 0])
theorem idx_6 : ∀ t : Fin cfg0.N, win0_6.index t = ![t.val / 21 % 2, 0] := (by decide +kernel : ∀ t : Fin grid0.N, win0_6.index t = ![t.val / 21 % 2, 0])
theorem idx_7 : ∀ t : Fin cfg0.N, win0_7.index t = ![0, 0] := (by decide +kernel : ∀ t : Fin grid0.N, win0_7.index t = ![0, 0])
theorem idx_8 : ∀ t : Fin cfg0.N, win0_8.index t = ![0, 0] := (by decide +kernel : ∀ t : Fin grid0.N, win0_8.index t = ![0, 0])
theorem idx_9 : ∀ t : Fin cfg0.N, win0_9.index t = ![t.val / 21, t.val % 21] := (by decide +kernel : ∀ t : Fin grid0.N, win0_9.index t = ![t.val / 21, t.val % 21])

/-- The row of the result that row `r` of point `t`'s tile is, its column, its sequence and its position. -/
def rowOf (t : Fin cfg0.N) (r : Fin 1024) : Fin 16384 := ⟨t.val / 21 * 1024 + r.val, by have h : t.val < 336 := t.isLt; omega⟩
def colOf (t : Fin cfg0.N) (l : Fin 512) : Fin 10752 := ⟨t.val % 21 * 512 + l.val, by omega⟩
def seqOf (t : Fin cfg0.N) (r : Fin 1024) : Fin 8 := ⟨(rowOf t r).val / 2048, by omega⟩
def posOf (t : Fin cfg0.N) (r : Fin 1024) : Fin 2048 := ⟨(rowOf t r).val % 2048, by omega⟩

theorem seqOf_val (t : Fin cfg0.N) (r : Fin 1024) : (seqOf t r).val = t.val / 21 / 2 := by
  show (t.val / 21 * 1024 + r.val) / 2048 = _; omega
theorem posOf_val (t : Fin cfg0.N) (r : Fin 1024) : (posOf t r).val = t.val / 21 % 2 * 1024 + r.val := by
  show (t.val / 21 * 1024 + r.val) % 2048 = _; omega

variable (m : (ℓ : Loc nD τ sig) → Buf (Elt Ideal) ℓ)

theorem blk_0 (c : Dev nD) (t : Fin cfg0.N) (r : Fin 1024) (k : Fin 2048) :
    (iblk m c 0 t : Vec Ideal S1024x2048 .f32) (ix2 r k) = (m ((c : Thread nD τ).loc main_arg0) : Vec Ideal S8x2048x2048 .f32) (ix3 (seqOf t r) (posOf t r) k) := by
  refine Eq.trans ?_ ((congrFun (V_x m c) (ix2 (rowOf t r) k)).trans (x_apply _ (rowOf t r) k))
  unfold iblk
  rw [View.read_apply]
  show V m c main_v18 _ = V m c main_v18 _
  generalize V m c main_v18 = A
  exact congrArg A (tile_ix (win0_0.index t) (idx_0 t) (ix2 r k) _ (fun _ => rfl) _ _ rfl (by show k.val = 0 * 2048 + k.val; omega))

theorem blk_1 (c : Dev nD) (t : Fin cfg0.N) (r : Fin 1024) (k : Fin 2048) :
    (iblk m c 1 t : Vec Ideal S1x1x2048 .f32) (ix3 (0 : Fin 1) (0 : Fin 1) k) = (m ((c : Thread nD τ).loc main_arg2) : Vec Ideal S8x1x2048 .f32) (ix3 (seqOf t r) (0 : Fin 1) k) := by
  rw [← V_main_arg2 m c]
  unfold iblk
  rw [View.read_apply]
  show V m c main_arg2 _ = V m c main_arg2 _
  generalize V m c main_arg2 = A
  exact congrArg A (tile_ix3 (win0_1.index t) (idx_1 t) (ix3 (0 : Fin 1) (0 : Fin 1) k) _ (fun _ => rfl) _ _ _
    (by rw [seqOf_val]; show _ = t.val / 21 / 2 * 1 + 0; omega) rfl (by show k.val = 0 * 2048 + k.val; omega))

theorem blk_2 (c : Dev nD) (t : Fin cfg0.N) (r : Fin 1024) (k : Fin 2048) :
    (iblk m c 2 t : Vec Ideal S1x1x2048 .f32) (ix3 (0 : Fin 1) (0 : Fin 1) k) = (m ((c : Thread nD τ).loc main_arg1) : Vec Ideal S8x1x2048 .f32) (ix3 (seqOf t r) (0 : Fin 1) k) := by
  rw [← V_main_arg1 m c]
  unfold iblk
  rw [View.read_apply]
  show V m c main_arg1 _ = V m c main_arg1 _
  generalize V m c main_arg1 = A
  exact congrArg A (tile_ix3 (win0_2.index t) (idx_2 t) (ix3 (0 : Fin 1) (0 : Fin 1) k) _ (fun _ => rfl) _ _ _
    (by rw [seqOf_val]; show _ = t.val / 21 / 2 * 1 + 0; omega) rfl (by show k.val = 0 * 2048 + k.val; omega))

theorem blk_3 (c : Dev nD) (t : Fin cfg0.N) (k : Fin 2048) :
    (iblk m c 3 t : Vec Ideal S1x2048 .f32) (ix2 (0 : Fin 1) k) = (m ((c : Thread nD τ).loc main_arg3) : Vec Ideal S2048 .f32) (ix1 k) := by
  refine Eq.trans ?_ ((congrFun (V_g m c) (ix2 (0 : Fin 1) k)).trans (g_apply _ k))
  unfold iblk
  rw [View.read_apply]
  show V m c main_v32 _ = V m c main_v32 _
  generalize V m c main_v32 = A
  exact congrArg A (tile_ix (win0_3.index t) (idx_3 t) (ix2 (0 : Fin 1) k) _ (fun _ => rfl) _ _ rfl (by show k.val = 0 * 2048 + k.val; omega))

theorem blk_4 (c : Dev nD) (t : Fin cfg0.N) (k : Fin 2048) (l : Fin 512) :
    (iblk m c 4 t : Vec Ideal S2048x512 .bf16) (ix2 k l) = packed (m ((c : Thread nD τ).loc main_arg4)) k (colOf t l) := by
  refine Eq.trans ?_ ((congrFun (V_w m c) (ix2 k (colOf t l))).trans (packedW_apply _ k (colOf t l)))
  unfold iblk
  rw [View.read_apply]
  show V m c main_v31 _ = V m c main_v31 _
  generalize V m c main_v31 = A
  exact congrArg A (tile_ix (win0_4.index t) (idx_4 t) (ix2 k l) _ (fun _ => rfl) _ _ (by show k.val = 0 * 2048 + k.val; omega) rfl)

theorem blk_5 (c : Dev nD) (t : Fin cfg0.N) (r : Fin 1024) (j : Fin 128) :
    (iblk m c 5 t : Vec Ideal S1024x128 .f32) (ix2 r j) = cosT (posOf t r) j := by
  refine Eq.trans ?_ ((congrFun (V_cos m c) (ix2 (posOf t r) j)).trans (cos_apply (posOf t r) j))
  unfold iblk
  rw [View.read_apply]
  show V m c main_v15 _ = V m c main_v15 _
  generalize V m c main_v15 = A
  exact congrArg A (tile_ix (win0_5.index t) (idx_5 t) (ix2 r j) _ (fun _ => rfl) _ _ (posOf_val t r) (by show j.val = 0 * 128 + j.val; omega))

theorem blk_6 (c : Dev nD) (t : Fin cfg0.N) (r : Fin 1024) (j : Fin 128) :
    (iblk m c 6 t : Vec Ideal S1024x128 .f32) (ix2 r j) = sinT (posOf t r) j := by
  refine Eq.trans ?_ ((congrFun (V_sin m c) (ix2 (posOf t r) j)).trans (sin_apply (posOf t r) j))
  unfold iblk
  rw [View.read_apply]
  show V m c main_v17 _ = V m c main_v17 _
  generalize V m c main_v17 = A
  exact congrArg A (tile_ix (win0_6.index t) (idx_6 t) (ix2 r j) _ (fun _ => rfl) _ _ (posOf_val t r) (by show j.val = 0 * 128 + j.val; omega))

theorem blk_7 (c : Dev nD) (t : Fin cfg0.N) (k : Fin 128) :
    (iblk m c 7 t : Vec Ideal S1x128 .f32) (ix2 (0 : Fin 1) k) = (m ((c : Thread nD τ).loc main_arg5) : Vec Ideal S128 .f32) (ix1 k) := by
  refine Eq.trans ?_ ((congrFun (V_qg m c) (ix2 (0 : Fin 1) k)).trans (hg_apply _ k))
  unfold iblk
  rw [View.read_apply]
  show V m c main_v33 _ = V m c main_v33 _
  generalize V m c main_v33 = A
  exact congrArg A (tile_ix (win0_7.index t) (idx_7 t) (ix2 (0 : Fin 1) k) _ (fun _ => rfl) _ _ rfl (by show k.val = 0 * 128 + k.val; omega))

theorem blk_8 (c : Dev nD) (t : Fin cfg0.N) (k : Fin 128) :
    (iblk m c 8 t : Vec Ideal S1x128 .f32) (ix2 (0 : Fin 1) k) = (m ((c : Thread nD τ).loc main_arg6) : Vec Ideal S128 .f32) (ix1 k) := by
  refine Eq.trans ?_ ((congrFun (V_kg m c) (ix2 (0 : Fin 1) k)).trans (hg_apply _ k))
  unfold iblk
  rw [View.read_apply]
  show V m c main_v34 _ = V m c main_v34 _
  generalize V m c main_v34 = A
  exact congrArg A (tile_ix (win0_8.index t) (idx_8 t) (ix2 (0 : Fin 1) k) _ (fun _ => rfl) _ _ rfl (by show k.val = 0 * 128 + k.val; omega))

/-! ## What the scratch carries -/

/-- The hidden rows of point `t`'s row tile. -/
def rowsAt (c : Dev nD) (t : Fin cfg0.N) : Vec Ideal S1024x2048 .bf16 := fun y =>
  rowHid (m ((c : Thread nD τ).loc main_arg0)) (m ((c : Thread nD τ).loc main_arg1)) (m ((c : Thread nD τ).loc main_arg2))
    (m ((c : Thread nD τ).loc main_arg3)) (rowOf t (y 0)) (y 1)

theorem hid_fresh (c : Dev nD) (t : Fin cfg0.N) : hidTile (iblk m c 0 t) (iblk m c 1 t) (iblk m c 2 t) (iblk m c 3 t) = rowsAt m c t := by
  refine funext fun (y : S1024x2048.Idx) => ?_
  idx_vars y
  exact hid_congr (fun k => blk_0 m c t y0 k) (fun k => blk_3 m c t k) (fun k => blk_1 m c t y0 k) (fun k => blk_2 m c t y0 k) y1

/-- After every point the scratch holds its row tile's hidden rows. -/
theorem hidAfter_eq (c : Dev nD) : ∀ (n : Nat) (h : n < cfg0.N), hidAfter m c ⟨n, h⟩ = rowsAt m c ⟨n, h⟩
  | 0, h => (if_pos rfl).trans (hid_fresh m c ⟨0, h⟩)
  | n + 1, h => by
    unfold hidAfter
    by_cases e : (n + 1) % 21 = 0
    · rw [if_pos e]
      exact hid_fresh m c ⟨n + 1, h⟩
    · rw [if_neg e]
      have hn : n < cfg0.N := Nat.lt_of_succ_lt h
      refine (congrArg Prod.snd (outs_eq m c ⟨n, hn⟩)).trans ((hidAfter_eq c n hn).trans ?_)
      refine funext fun (y : S1024x2048.Idx) => ?_
      unfold rowsAt
      refine congrArg (fun r => rowHid _ _ _ _ r (y 1)) (Fin.ext ?_)
      show n / 21 * 1024 + (y 0).val = (n + 1) / 21 * 1024 + (y 0).val
      omega

/-! ## The whole result -/

/-- The result, from the arguments. -/
def result (c : Dev nD) : Vec Ideal S16384x10752 .f32 := fun i =>
  projected (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

theorem tile_eq (c : Dev nD) (t : Fin cfg0.N) (r : Fin 1024) (l : Fin 512) :
    tileAt m c t (hidAfter m c t) (ix2 r l) = result m c (ix2 (rowOf t r) (colOf t l)) := by
  rw [hidAfter_eq m c t.val t.isLt]
  refine cell_congr (by show t.val % 21 = (t.val % 21 * 512 + l.val) / 512; omega) (fun i => ?_) (fun j => blk_5 m c t r j)
    (fun j => blk_6 m c t r j) (fun j => blk_7 m c t j) (fun j => blk_8 m c t j)
    (Fin.ext (by show l.val = (t.val % 21 * 512 + l.val) % 512; omega))
  refine Finset.sum_congr rfl fun k _ => congrArg (rowsAt m c t (ix2 r k) * ·) ((blk_4 m c t k i).trans (congrArg (packed _ k) (Fin.ext ?_)))
  show t.val % 21 * 512 + i.val = (t.val % 21 * 512 + l.val) / 512 * 512 + i.val
  omega

theorem flushed_eq (c : Dev nD) (t : Fin cfg0.N) (_ : (cfg0.win 9).flush t = true) :
    (dats m 0 c).flushed 9 t = ((cfg0.win 9).blk t).view.read (Elt Ideal) (result m c) := by
  rw [Value.flushed9, outs_eq]
  funext j
  refine Eq.trans ?_ (View.read_apply ..).symm
  show tileAt m c t (hidAfter m c t) (j : S1024x512.Idx) = result m c _
  refine Eq.trans ?_ (congrArg (result m c) (tile_ix (win0_9.index t) (idx_9 t) (j : S1024x512.Idx) _ (fun _ => rfl)
    (rowOf t ((j : S1024x512.Idx) 0)) (colOf t ((j : S1024x512.Idx) 1)) rfl rfl)).symm
  generalize (j : S1024x512.Idx) = y
  idx_vars y
  exact tile_eq m c t y0 y1

theorem covered (i : S16384x10752.Idx) : ∃ t : Fin cfg0.N, (cfg0.win 9).flush t = true ∧ i ∈ ((cfg0.win 9).blk t).view.set := by
  have h0 : (i 0).val < 16384 := (i 0).isLt
  have h1 : (i 1).val < 10752 := (i 1).isLt
  let t : Fin cfg0.N := ⟨21 * ((i 0).val / 1024) + (i 1).val / 512, show 21 * ((i 0).val / 1024) + (i 1).val / 512 < 336 by omega⟩
  have e0 : t.val / 21 = (i 0).val / 1024 := by show (21 * ((i 0).val / 1024) + (i 1).val / 512) / 21 = _; omega
  have e1 : t.val % 21 = (i 1).val / 512 := by show (21 * ((i 0).val / 1024) + (i 1).val / 512) % 21 = _; omega
  refine ⟨t, flush0_9 _, ?_⟩
  refine ((Finset.ext_iff.mp (View.set_slice_whole _ _)) i).mpr (Rect.mem_set_unit.mpr ?_)
  exact mem_tile (b0 := 1024) (b1 := 512) (win0_9.index t) (idx_9 t) i (by rw [e0]; omega) (by rw [e1]; omega)

theorem final_eq (c : Dev nD) : (dats m 0 c).arrAt 9 cfg0.N = result m c :=
  (dats m 0 c).arrAt_eq_of_cover 9 (result m c) (flushed_eq m c) covered

end Cert.Kernel2Ideal.Val

end
-- ==== Proof.ProjRef.lean ====
/-
  The reference's in-projection read at an index: it is `Proj.projected`.
-/
module

public import proofs.«01_k».proof.Proof.Gen.Reference2Ideal.Read
public import proofs.«01_k».proof.Proof.ProjSpec
public import proofs.«01_k».proof.Proof.Tiles

@[expose] public section

set_option maxRecDepth 16384

noncomputable section

namespace Cert.Reference2Ideal.Val

open Cert.Reference2Ideal Cert.Reference2Ideal.Gen Cert.Reference2Ideal.Read Idealize.ShloMosaic Idealize.ShloMosaic.TcCoe
open Cert.Proj Cert.Tiles

variable (x0 : Vec Ideal S8x2048x2048 .f32) (x1 x2 : Vec Ideal S8x1x2048 .f32) (x3 : Vec Ideal S2048 .f32)
  (x4 : Vec Ideal S2048x10384 .f32) (x5 x6 : Vec Ideal S128 .f32)

/-! ## The projection of a row -/

/-- Row `p` of sequence `b` normalized and modulated. -/
def refHid (b : Fin 8) (p : Fin 2048) : Fin 2048 → EReal :=
  hid (fun k => x0 (ix3 b p k)) (fun k => x3 (ix1 k)) (fun k => x2 (ix3 b (0 : Fin 1) k)) (fun k => x1 (ix3 b (0 : Fin 1) k))

theorem hid_apply (b : Fin 8) (p k : Fin 2048) : val_main_v19 (F := Ideal) x0 x1 x2 x3 (ix3 b p k) = refHid x0 x1 x2 x3 b p k := by
  unfold val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1
    val_main_cst val_main_cst_0 val_main_cst_1 val_main_cst_2
  pointwise [refHid, hid]

theorem proj_apply (b : Fin 8) (p : Fin 2048) (c : Fin 10384) :
    val_main_v20 (F := Ideal) x0 x1 x2 x3 x4 (ix3 b p c) = ∑ k : Fin 2048, refHid x0 x1 x2 x3 b p k * x4 (ix2 k c) := by
  unfold val_main_v20
  pointwise [hid_apply]

/-! ## The tables -/

theorem cos_apply (p : Fin 2048) (j : Fin 64) : val_main_v56 (F := Ideal) (ix2 p j) = Ideal.cos (angle p j) := by
  unfold val_main_v56 val_main_v55 val_main_v54 val_main_v53 val_main_v52 val_main_v51 val_main_v50 val_main_v49 val_main_v48
    val_main_v47 val_main_v46 val_main_v45 val_main_v44 val_main_v0 val_main_cst_6 val_main_cst_7
  pointwise [angle]
theorem sin_apply (p : Fin 2048) (j : Fin 64) : val_main_v58 (F := Ideal) (ix2 p j) = Ideal.sin (angle p j) := by
  unfold val_main_v58 val_main_v55 val_main_v54 val_main_v53 val_main_v52 val_main_v51 val_main_v50 val_main_v49 val_main_v48
    val_main_v47 val_main_v46 val_main_v45 val_main_v44 val_main_v0 val_main_cst_6 val_main_cst_7
  pointwise [angle]
theorem cos_k : val_main_v103 (F := Ideal) = val_main_v56 (F := Ideal) := rfl
theorem sin_k : val_main_v105 (F := Ideal) = val_main_v58 (F := Ideal) := rfl
theorem cos_iq : val_main_v137 (F := Ideal) = val_main_v56 (F := Ideal) := rfl
theorem sin_iq : val_main_v139 (F := Ideal) = val_main_v58 (F := Ideal) := rfl
theorem cos_ik : val_main_v171 (F := Ideal) = val_main_v56 (F := Ideal) := rfl
theorem sin_ik : val_main_v173 (F := Ideal) = val_main_v58 (F := Ideal) := rfl

/-! ## The turns -/

theorem turn_q (b : Fin 8) (p : Fin 2048) (h : Fin 16) (j : Fin 128) : val_main_v76 (F := Ideal) x0 x1 x2 x3 x4 x5 (ix4 b p h j)
    = turn (fun j => val_main_v43 (F := Ideal) x0 x1 x2 x3 x4 x5 (ix4 b p h j)) (cosT p) (sinT p) j := by
  rw [turn_halves]
  unfold val_main_v76 val_main_v75 val_main_v74 val_main_v73 val_main_v72 val_main_v71 val_main_v70 val_main_v69 val_main_v68
    val_main_v67 val_main_v66 val_main_v65 val_main_v64 val_main_v63 val_main_v62 val_main_v61 val_main_v60 val_main_v59 val_main_v57
  pointwise [cos_apply, sin_apply]

theorem turn_k (b : Fin 8) (p : Fin 2048) (h : Fin 4) (j : Fin 128) : val_main_v123 (F := Ideal) x0 x1 x2 x3 x4 x6 (ix4 b p h j)
    = turn (fun j => val_main_v90 (F := Ideal) x0 x1 x2 x3 x4 x6 (ix4 b p h j)) (cosT p) (sinT p) j := by
  rw [turn_halves]
  unfold val_main_v123 val_main_v122 val_main_v121 val_main_v120 val_main_v119 val_main_v118 val_main_v117 val_main_v116 val_main_v115
    val_main_v114 val_main_v113 val_main_v112 val_main_v111 val_main_v110 val_main_v109 val_main_v108 val_main_v107 val_main_v106 val_main_v104
  rw [cos_k, sin_k]
  pointwise [cos_apply, sin_apply]

theorem turn_iq (b : Fin 8) (p : Fin 2048) (h : Fin 16) (j : Fin 128) : val_main_v157 (F := Ideal) x0 x1 x2 x3 x4 (ix4 b p h j)
    = turn (fun j => val_main_v124 (F := Ideal) x0 x1 x2 x3 x4 (ix4 b p h j)) (cosT p) (sinT p) j := by
  rw [turn_halves]
  unfold val_main_v157 val_main_v156 val_main_v155 val_main_v154 val_main_v153 val_main_v152 val_main_v151 val_main_v150 val_main_v149
    val_main_v148 val_main_v147 val_main_v146 val_main_v145 val_main_v144 val_main_v143 val_main_v142 val_main_v141 val_main_v140 val_main_v138
  rw [cos_iq, sin_iq]
  pointwise [cos_apply, sin_apply]

theorem turn_ik (b : Fin 8) (p : Fin 2048) (j : Fin 128) : val_main_v191 (F := Ideal) x0 x1 x2 x3 x4 (ix4 b p (0 : Fin 1) j)
    = turn (fun j => val_main_v158 (F := Ideal) x0 x1 x2 x3 x4 (ix4 b p (0 : Fin 1) j)) (cosT p) (sinT p) j := by
  rw [turn_halves]
  unfold val_main_v191 val_main_v190 val_main_v189 val_main_v188 val_main_v187 val_main_v186 val_main_v185 val_main_v184 val_main_v183
    val_main_v182 val_main_v181 val_main_v180 val_main_v179 val_main_v178 val_main_v177 val_main_v176 val_main_v175 val_main_v174 val_main_v172
  rw [cos_ik, sin_ik]
  pointwise [cos_apply, sin_apply]

/-! ## The head norms, and the heads as columns of the projection -/

theorem norm_q (b : Fin 8) (p : Fin 2048) (h : Fin 16) (j : Fin 128) : val_main_v43 (F := Ideal) x0 x1 x2 x3 x4 x5 (ix4 b p h j)
    = headNorm (fun j => val_main_v30 (F := Ideal) x0 x1 x2 x3 x4 (ix4 b p h j)) (fun j => x5 (ix1 j)) j := by
  unfold val_main_v43 val_main_v42 val_main_v41 val_main_v40 val_main_v39 val_main_v38 val_main_v37 val_main_v36 val_main_v35
    val_main_v34 val_main_v33 val_main_v32 val_main_v31 val_main_cst_3 val_main_cst_4 val_main_cst_5
  pointwise [headNorm]

theorem norm_k (b : Fin 8) (p : Fin 2048) (h : Fin 4) (j : Fin 128) : val_main_v90 (F := Ideal) x0 x1 x2 x3 x4 x6 (ix4 b p h j)
    = headNorm (fun j => val_main_v77 (F := Ideal) x0 x1 x2 x3 x4 (ix4 b p h j)) (fun j => x6 (ix1 j)) j := by
  unfold val_main_v90 val_main_v89 val_main_v88 val_main_v87 val_main_v86 val_main_v85 val_main_v84 val_main_v83 val_main_v82
    val_main_v81 val_main_v80 val_main_v79 val_main_v78 val_main_cst_8 val_main_cst_9 val_main_cst_10
  pointwise [headNorm]

theorem head_q (b : Fin 8) (p : Fin 2048) (h : Fin 16) (j : Fin 128) : val_main_v30 (F := Ideal) x0 x1 x2 x3 x4 (ix4 b p h j)
    = val_main_v20 (F := Ideal) x0 x1 x2 x3 x4 (ix3 b p (⟨h.val * 128 + j.val, by omega⟩ : Fin 10384)) := by
  unfold val_main_v30 val_main_v21
  pointwise []

theorem head_k (b : Fin 8) (p : Fin 2048) (h : Fin 4) (j : Fin 128) : val_main_v77 (F := Ideal) x0 x1 x2 x3 x4 (ix4 b p h j)
    = val_main_v20 (F := Ideal) x0 x1 x2 x3 x4 (ix3 b p (⟨2048 + (h.val * 128 + j.val), by omega⟩ : Fin 10384)) := by
  unfold val_main_v77 val_main_v22
  pointwise []

theorem head_iq (b : Fin 8) (p : Fin 2048) (h : Fin 16) (j : Fin 128) : val_main_v124 (F := Ideal) x0 x1 x2 x3 x4 (ix4 b p h j)
    = val_main_v20 (F := Ideal) x0 x1 x2 x3 x4 (ix3 b p (⟨3072 + (h.val * 128 + j.val), by omega⟩ : Fin 10384)) := by
  unfold val_main_v124 val_main_v24
  pointwise []

theorem head_ik (b : Fin 8) (p : Fin 2048) (j : Fin 128) : val_main_v158 (F := Ideal) x0 x1 x2 x3 x4 (ix4 b p (0 : Fin 1) j)
    = val_main_v20 (F := Ideal) x0 x1 x2 x3 x4 (ix3 b p (⟨5120 + j.val, by omega⟩ : Fin 10384)) := by
  unfold val_main_v158 val_main_v25
  pointwise []

/-! ## The packed columns of the projection -/

/-- The source of a packed column. -/
theorem packed_src (k : Fin 2048) (c : Fin 10752) (c' : Fin 10384)
    (h : c.val < 2048 ∧ c'.val = c.val ∨ (2048 ≤ c.val ∧ c.val < 4096) ∧ c'.val = c.val + 1024
      ∨ (4096 ≤ c.val ∧ c.val < 5120) ∧ c'.val + 2048 = c.val ∨ (5120 ≤ c.val ∧ c.val < 5264) ∧ c'.val = c.val
      ∨ (5376 ≤ c.val ∧ c.val < 6400) ∧ c'.val + 112 = c.val ∨ 6656 ≤ c.val ∧ c'.val + 368 = c.val) :
    packed x4 k c = x4 (ix2 k c') := by
  unfold packed
  split_ifs <;> first | (exfalso; omega) | exact congrArg (fun d => x4 (ix2 k d)) (Fin.ext (by dsimp only; omega))

theorem packed_gap (k : Fin 2048) (c : Fin 10752) (h : (5264 ≤ c.val ∧ c.val < 5376) ∨ (6400 ≤ c.val ∧ c.val < 6656)) :
    packed x4 k c = 0 := by
  unfold packed
  split_ifs <;> first | (exfalso; omega) | rfl

/-- Column `c` of the packed projection of row `r`. -/
def lane (r : Fin 16384) (c : Fin 10752) : EReal := ∑ k : Fin 2048, rowHid x0 x1 x2 x3 r k * packed x4 k c

theorem lane_src (r : Fin 16384) (c : Fin 10752) (c' : Fin 10384) (h : ∀ k, packed x4 k c = x4 (ix2 k c')) :
    lane x0 x1 x2 x3 x4 r c
      = val_main_v20 (F := Ideal) x0 x1 x2 x3 x4 (ix3 (⟨r.val / 2048, by omega⟩ : Fin 8) (⟨r.val % 2048, by omega⟩ : Fin 2048) c') := by
  rw [proj_apply]
  exact Finset.sum_congr rfl fun k _ => by rw [h]; rfl

theorem lane_gap (r : Fin 16384) (c : Fin 10752) (h : ∀ k, packed x4 k c = 0) : lane x0 x1 x2 x3 x4 r c = 0 :=
  Finset.sum_eq_zero fun k _ => by rw [h, mul_zero]

/-- The head that column `c` lies in. -/
def laneHead (r : Fin 16384) (c : Fin 10752) (j : Fin 128) : EReal :=
  lane x0 x1 x2 x3 x4 r ⟨c.val / 128 * 128 + j.val, by omega⟩

theorem head_lane (r : Fin 16384) (c : Fin 10752) :
    headOf (fun l : Fin 512 => lane x0 x1 x2 x3 x4 r ⟨c.val / 512 * 512 + l.val, by omega⟩) ⟨c.val % 512 / 128, by omega⟩
      = laneHead x0 x1 x2 x3 x4 r c := by
  funext j
  unfold headOf laneHead
  exact congrArg (lane x0 x1 x2 x3 x4 r) (Fin.ext (by show c.val / 512 * 512 + (128 * (c.val % 512 / 128) + j.val) = c.val / 128 * 128 + j.val; omega))

/-- `projected` with its columns and heads named. -/
theorem projected_eq (r : Fin 16384) (c : Fin 10752) : projected x0 x1 x2 x3 x4 x5 x6 r c =
    if c.val < 2048 then turn (headNorm (laneHead x0 x1 x2 x3 x4 r c) fun j => x5 (ix1 j)) (cosT ⟨r.val % 2048, by omega⟩) (sinT ⟨r.val % 2048, by omega⟩) ⟨c.val % 128, by omega⟩
    else if c.val < 4096 then turn (laneHead x0 x1 x2 x3 x4 r c) (cosT ⟨r.val % 2048, by omega⟩) (sinT ⟨r.val % 2048, by omega⟩) ⟨c.val % 128, by omega⟩
    else if c.val < 4608 then turn (headNorm (laneHead x0 x1 x2 x3 x4 r c) fun j => x6 (ix1 j)) (cosT ⟨r.val % 2048, by omega⟩) (sinT ⟨r.val % 2048, by omega⟩) ⟨c.val % 128, by omega⟩
    else if c.val < 5120 then lane x0 x1 x2 x3 x4 r c
    else if c.val < 5248 then turn (laneHead x0 x1 x2 x3 x4 r c) (cosT ⟨r.val % 2048, by omega⟩) (sinT ⟨r.val % 2048, by omega⟩) ⟨c.val % 128, by omega⟩
    else if c.val < 5376 then lane x0 x1 x2 x3 x4 r c * Ideal.ofBits FTy.f32 0x3CB504F3#32
    else lane x0 x1 x2 x3 x4 r c := by
  have hl : (fun l : Fin 512 => ∑ k : Fin 2048, rowHid x0 x1 x2 x3 r k * packed x4 k (⟨c.val / 512 * 512 + l.val, by omega⟩ : Fin 10752))
      = fun l : Fin 512 => lane x0 x1 x2 x3 x4 r ⟨c.val / 512 * 512 + l.val, by omega⟩ := rfl
  have hj : (⟨c.val % 512 % 128, by omega⟩ : Fin 128) = ⟨c.val % 128, by omega⟩ := Fin.ext (by show c.val % 512 % 128 = c.val % 128; omega)
  have hc : (⟨c.val / 512 * 512 + c.val % 512, by omega⟩ : Fin 10752) = c := Fin.ext (by show c.val / 512 * 512 + c.val % 512 = c.val; omega)
  unfold projected cell
  rw [hl]
  dsimp only
  rw [head_lane, hj, hc]
  split_ifs <;> first | rfl | (exfalso; omega)

/-! ## The pieces of the packed array -/

theorem flat_q (b : Fin 8) (p : Fin 2048) (c : Fin 2048) : val_main_v194 (F := Ideal) x0 x1 x2 x3 x4 x5 (ix3 b p c)
    = turn (headNorm (fun j => val_main_v20 (F := Ideal) x0 x1 x2 x3 x4 (ix3 b p (⟨c.val / 128 * 128 + j.val, by omega⟩ : Fin 10384)))
        fun j => x5 (ix1 j)) (cosT p) (sinT p) ⟨c.val % 128, by omega⟩ := by
  unfold val_main_v194
  pointwise [turn_q, norm_q, head_q]

theorem flat_iq (b : Fin 8) (p : Fin 2048) (c : Fin 2048) : val_main_v195 (F := Ideal) x0 x1 x2 x3 x4 (ix3 b p c)
    = turn (fun j => val_main_v20 (F := Ideal) x0 x1 x2 x3 x4 (ix3 b p (⟨3072 + (c.val / 128 * 128 + j.val), by omega⟩ : Fin 10384)))
        (cosT p) (sinT p) ⟨c.val % 128, by omega⟩ := by
  unfold val_main_v195
  pointwise [turn_iq, head_iq]

theorem flat_k (b : Fin 8) (p : Fin 2048) (c : Fin 512) : val_main_v196 (F := Ideal) x0 x1 x2 x3 x4 x6 (ix3 b p c)
    = turn (headNorm (fun j => val_main_v20 (F := Ideal) x0 x1 x2 x3 x4 (ix3 b p (⟨2048 + (c.val / 128 * 128 + j.val), by omega⟩ : Fin 10384)))
        fun j => x6 (ix1 j)) (cosT p) (sinT p) ⟨c.val % 128, by omega⟩ := by
  unfold val_main_v196
  pointwise [turn_k, norm_k, head_k]

theorem flat_ik (b : Fin 8) (p : Fin 2048) (c : Fin 128) : val_main_v197 (F := Ideal) x0 x1 x2 x3 x4 (ix3 b p c)
    = turn (fun j => val_main_v20 (F := Ideal) x0 x1 x2 x3 x4 (ix3 b p (⟨5120 + j.val, by omega⟩ : Fin 10384))) (cosT p) (sinT p) c := by
  unfold val_main_v197
  pointwise [turn_ik, head_ik]

theorem flat_iw (b : Fin 8) (p : Fin 2048) (c : Fin 16) : val_main_v193 (F := Ideal) x0 x1 x2 x3 x4 (ix3 b p c)
    = val_main_v20 (F := Ideal) x0 x1 x2 x3 x4 (ix3 b p (⟨5248 + c.val, by omega⟩ : Fin 10384)) * Ideal.ofBits FTy.f32 0x3CB504F3#32 := by
  unfold val_main_v193 val_main_v192 val_main_cst_17 val_main_v26
  pointwise []

theorem gap_a (b : Fin 8) (p : Fin 2048) (c : Fin 112) : val_main_v198 (F := Ideal) (ix3 b p c) = 0 := by
  unfold val_main_v198 val_main_cst_18
  pointwise []
theorem gap_b (b : Fin 8) (p : Fin 2048) (c : Fin 256) : val_main_v199 (F := Ideal) (ix3 b p c) = 0 := by
  unfold val_main_v199 val_main_cst_19
  pointwise []

theorem plain_v (b : Fin 8) (p : Fin 2048) (c : Fin 512) : val_main_v23 (F := Ideal) x0 x1 x2 x3 x4 (ix3 b p c)
    = val_main_v20 (F := Ideal) x0 x1 x2 x3 x4 (ix3 b p (⟨2560 + c.val, by omega⟩ : Fin 10384)) := by
  unfold val_main_v23
  pointwise []
theorem plain_p (b : Fin 8) (p : Fin 2048) (c : Fin 1024) : val_main_v27 (F := Ideal) x0 x1 x2 x3 x4 (ix3 b p c)
    = val_main_v20 (F := Ideal) x0 x1 x2 x3 x4 (ix3 b p (⟨5264 + c.val, by omega⟩ : Fin 10384)) := by
  unfold val_main_v27
  pointwise []
theorem plain_a (b : Fin 8) (p : Fin 2048) (c : Fin 2048) : val_main_v28 (F := Ideal) x0 x1 x2 x3 x4 (ix3 b p c)
    = val_main_v20 (F := Ideal) x0 x1 x2 x3 x4 (ix3 b p (⟨6288 + c.val, by omega⟩ : Fin 10384)) := by
  unfold val_main_v28
  pointwise []
theorem plain_b (b : Fin 8) (p : Fin 2048) (c : Fin 2048) : val_main_v29 (F := Ideal) x0 x1 x2 x3 x4 (ix3 b p c)
    = val_main_v20 (F := Ideal) x0 x1 x2 x3 x4 (ix3 b p (⟨8336 + c.val, by omega⟩ : Fin 10384)) := by
  unfold val_main_v29
  pointwise []

/-- A head of the packed columns is the head of the projection's columns it was taken from. -/
theorem laneHead_src (r : Fin 16384) (c : Fin 10752) (s : Fin 128 → Fin 10384)
    (h : ∀ k j, packed x4 k ⟨c.val / 128 * 128 + j.val, by omega⟩ = x4 (ix2 k (s j))) :
    laneHead x0 x1 x2 x3 x4 r c = fun j => val_main_v20 (F := Ideal) x0 x1 x2 x3 x4
      (ix3 (⟨r.val / 2048, by omega⟩ : Fin 8) (⟨r.val % 2048, by omega⟩ : Fin 2048) (s j)) :=
  funext fun j => lane_src x0 x1 x2 x3 x4 r _ (s j) fun k => h k j

set_option maxHeartbeats 4000000 in
/-- The reference's packed array is `projected`. -/
theorem packed_apply (r : Fin 16384) (c : Fin 10752) : val_main_v200 (F := Ideal) x0 x1 x2 x3 x4 x5 x6
    (ix3 (⟨r.val / 2048, by omega⟩ : Fin 8) (⟨r.val % 2048, by omega⟩ : Fin 2048) c) = projected x0 x1 x2 x3 x4 x5 x6 r c := by
  have hc := c.isLt
  rw [projected_eq]
  unfold val_main_v200
  refine
    if h0 : c.val < 2048 then (piece3 _ _ _ _ c 0 (by show 0 < 11; decide) _ rfl 0 rfl ⟨c.val - 0, by omega⟩ (by dsimp only; omega)).trans ?_ else
    if h1 : c.val < 4096 then (piece3 _ _ _ _ c 1 (by show 1 < 11; decide) _ rfl 2048 rfl ⟨c.val - 2048, by omega⟩ (by dsimp only; omega)).trans ?_ else
    if h2 : c.val < 4608 then (piece3 _ _ _ _ c 2 (by show 2 < 11; decide) _ rfl 4096 rfl ⟨c.val - 4096, by omega⟩ (by dsimp only; omega)).trans ?_ else
    if h3 : c.val < 5120 then (piece3 _ _ _ _ c 3 (by show 3 < 11; decide) _ rfl 4608 rfl ⟨c.val - 4608, by omega⟩ (by dsimp only; omega)).trans ?_ else
    if h4 : c.val < 5248 then (piece3 _ _ _ _ c 4 (by show 4 < 11; decide) _ rfl 5120 rfl ⟨c.val - 5120, by omega⟩ (by dsimp only; omega)).trans ?_ else
    if h5 : c.val < 5264 then (piece3 _ _ _ _ c 5 (by show 5 < 11; decide) _ rfl 5248 rfl ⟨c.val - 5248, by omega⟩ (by dsimp only; omega)).trans ?_ else
    if h6 : c.val < 5376 then (piece3 _ _ _ _ c 6 (by show 6 < 11; decide) _ rfl 5264 rfl ⟨c.val - 5264, by omega⟩ (by dsimp only; omega)).trans ?_ else
    if h7 : c.val < 6400 then (piece3 _ _ _ _ c 7 (by show 7 < 11; decide) _ rfl 5376 rfl ⟨c.val - 5376, by omega⟩ (by dsimp only; omega)).trans ?_ else
    if h8 : c.val < 6656 then (piece3 _ _ _ _ c 8 (by show 8 < 11; decide) _ rfl 6400 rfl ⟨c.val - 6400, by omega⟩ (by dsimp only; omega)).trans ?_ else
    if h9 : c.val < 8704 then (piece3 _ _ _ _ c 9 (by show 9 < 11; decide) _ rfl 6656 rfl ⟨c.val - 6656, by omega⟩ (by dsimp only; omega)).trans ?_ else
    (piece3 _ _ _ _ c 10 (by show 10 < 11; decide) _ rfl 8704 rfl ⟨c.val - 8704, by omega⟩ (by dsimp only; omega)).trans ?_
  · rw [flat_q, if_pos h0, laneHead_src x0 x1 x2 x3 x4 r c (fun j => ⟨(c.val - 0) / 128 * 128 + j.val, by omega⟩)
      fun k j => packed_src _ k _ _ (by dsimp only; omega)]
    exact congrArg (turn _ _ _) (Fin.ext (by dsimp only; omega))
  · rw [flat_iq, if_neg h0, if_pos h1, laneHead_src x0 x1 x2 x3 x4 r c (fun j => ⟨3072 + ((c.val - 2048) / 128 * 128 + j.val), by omega⟩)
      fun k j => packed_src _ k _ _ (by dsimp only; omega)]
    exact congrArg (turn _ _ _) (Fin.ext (by dsimp only; omega))
  · rw [flat_k, if_neg h0, if_neg h1, if_pos h2, laneHead_src x0 x1 x2 x3 x4 r c (fun j => ⟨2048 + ((c.val - 4096) / 128 * 128 + j.val), by omega⟩)
      fun k j => packed_src _ k _ _ (by dsimp only; omega)]
    exact congrArg (turn _ _ _) (Fin.ext (by dsimp only; omega))
  · rw [plain_v, if_neg h0, if_neg h1, if_neg h2, if_pos h3]
    exact (lane_src x0 x1 x2 x3 x4 r c _ fun k => packed_src _ k _ _ (by dsimp only; omega)).symm
  · rw [flat_ik, if_neg h0, if_neg h1, if_neg h2, if_neg h3, if_pos h4, laneHead_src x0 x1 x2 x3 x4 r c (fun j => ⟨5120 + j.val, by omega⟩)
      fun k j => packed_src _ k _ _ (by dsimp only; omega)]
    exact congrArg (turn _ _ _) (Fin.ext (by dsimp only; omega))
  · rw [flat_iw, if_neg h0, if_neg h1, if_neg h2, if_neg h3, if_neg h4, if_pos (by omega : c.val < 5376)]
    exact congrArg (· * _) (lane_src x0 x1 x2 x3 x4 r c _ fun k => packed_src _ k _ _ (by dsimp only; omega)).symm
  · rw [gap_a, if_neg h0, if_neg h1, if_neg h2, if_neg h3, if_neg h4, if_pos h6, lane_gap x0 x1 x2 x3 x4 r c fun k => packed_gap _ k c (by omega), zero_mul]
  · rw [plain_p, if_neg h0, if_neg h1, if_neg h2, if_neg h3, if_neg h4, if_neg h6]
    exact (lane_src x0 x1 x2 x3 x4 r c _ fun k => packed_src _ k _ _ (by dsimp only; omega)).symm
  · rw [gap_b, if_neg h0, if_neg h1, if_neg h2, if_neg h3, if_neg h4, if_neg h6, lane_gap x0 x1 x2 x3 x4 r c fun k => packed_gap _ k c (by omega)]
  · rw [plain_a, if_neg h0, if_neg h1, if_neg h2, if_neg h3, if_neg h4, if_neg h6]
    exact (lane_src x0 x1 x2 x3 x4 r c _ fun k => packed_src _ k _ _ (by dsimp only; omega)).symm
  · rw [plain_b, if_neg h0, if_neg h1, if_neg h2, if_neg h3, if_neg h4, if_neg h6]
    exact (lane_src x0 x1 x2 x3 x4 r c _ fun k => packed_src _ k _ _ (by dsimp only; omega)).symm

theorem reference_apply (r : Fin 16384) (c : Fin 10752) :
    val_main_v201 (F := Ideal) x0 x1 x2 x3 x4 x5 x6 (ix2 r c) = projected x0 x1 x2 x3 x4 x5 x6 r c := by
  rw [← packed_apply]
  unfold val_main_v201
  pointwise []

end Cert.Reference2Ideal.Val

end
-- ==== Proof.ProjClaim.lean ====
/-
  The claims about the in-projection call.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.ProjRun
public import proofs.«01_k».proof.Proof.ProjRef
public import Idealize.ShloMosaic.Adequacy

@[expose] public section

set_option maxRecDepth 16384

noncomputable section

namespace Cert.Proj

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's projection is the reference's. -/
theorem algebraic : Cert.algebraic_Kernel2Ideal_Reference2Ideal := by
  intro m g m' g' _ hag
  refine ⟨fun c => Cert.Kernel2Ideal.Val.result m c, ?_, ?_⟩
  · refine (θ_run Cert.Kernel2Ideal.defs _ _).mono (fun _ h c => ⟨(h c).1.trans (Cert.Kernel2Ideal.Val.final_eq m c), (h c).2⟩)
      (Cert.Kernel2Ideal.Value.run_blocks (F := Ideal) m g)
  · refine (θ_run Cert.Reference2Ideal.defs _ _).mono (fun _ h c => ⟨(h c).1.trans ?_, (h c).2⟩)
      (Cert.Reference2Ideal.Value.run (F := Ideal) m' g')
    rw [Cert.Reference2Ideal.Read.val_main_v201_eq]
    change Cert.Reference2Ideal.Read.val_main_v201 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6)) = _
    obtain ⟨e0, e1, e2, e3, e4, e5, e6⟩ := hag c
    rw [e0, e1, e2, e3, e4, e5, e6]
    refine funext fun (y : (⟨2, ![16384, 10752]⟩ : Shape).Idx) => ?_
    idx_vars y
    exact Cert.Reference2Ideal.Val.reference_apply _ _ _ _ _ _ _ y0 y1

end Cert.Proj

end
-- ==== Proof.Merge.lean ====
/-
  The gated merge of the attention output and the pooled output: what each grid point writes is the point's tile of ONE function
  of the arguments, the tiles cover the result, and that function is the reference's.
-/
module

public import proofs.«01_k».proof.Proof.Gen.Kernel3Ideal.Value
public import proofs.«01_k».proof.Proof.Gen.Kernel3.Frame
public import proofs.«01_k».proof.Proof.Gen.Reference3Ideal.Read
public import proofs.«01_k».proof.Proof.Tiles
public import proofs.«01_k».proof.Defs

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Cert.Tiles

/-- The merge at row `r` and column `l`: the projected attention and the pooled row, each under its gate. -/
def merged (a : Vec Ideal S16384x2048 .bf16) (p : Vec Ideal S16384x10752 .f32) (q : Vec Ideal S16384x2048 .f32)
    (w : Vec Ideal S2048x2048 .f32) (r : Fin 16384) (l : Fin 2048) : EReal :=
  Ideal.logistic (p (ix2 r (⟨6656 + l.val, by omega⟩ : Fin 10752))) * (∑ k : Fin 2048, a (ix2 r k) * w (ix2 k l))
    + Ideal.logistic (p (ix2 r (⟨8704 + l.val, by omega⟩ : Fin 10752))) * q (ix2 r l)

/-! ## One tile -/

theorem pay1_apply (a : Vec Ideal S1024x2048 .bf16) (w : Vec Ideal S2048x512 .bf16) (ga gb p : Vec Ideal S1024x512 .f32)
    (r : Fin 1024) (l : Fin 512) :
    k0_pay1 a w ga gb p (ix2 r l)
      = Ideal.logistic (ga (ix2 r l)) * (∑ x : Fin 2048, a (ix2 r x) * w (ix2 x l)) + Ideal.logistic (gb (ix2 r l)) * p (ix2 r l) := by
  pointwise [k0_pay1]

theorem out_eq (a : Vec Ideal S1024x2048 .bf16) (w : Vec Ideal S2048x512 .bf16) (ga gb p : Vec Ideal S1024x512 .f32) :
    out0_5 a w ga gb p = k0_pay1 a w ga gb p := by
  have hz : (![0, 0] : Fin 2 → Nat) = fun _ => 0 := by decide
  unfold out0_5
  rw [View.ld_unit_zero (S := S1024x2048) hz, View.ld_unit_zero (S := S2048x512) hz]
  simp only [View.ld_unit_zero (S := S1024x512) hz]
  exact View.canon_cons_unit_zero (S := S1024x512) hz _ _ _

/-! ## The tiles' places -/

theorem idx_0 : ∀ t : Fin cfg0.N, win0_0.index t = ![t.val / 4, 0] := (by decide +kernel : ∀ t : Fin grid0.N, win0_0.index t = ![t.val / 4, 0])
theorem idx_1 : ∀ t : Fin cfg0.N, win0_1.index t = ![0, t.val % 4] := (by decide +kernel : ∀ t : Fin grid0.N, win0_1.index t = ![0, t.val % 4])
theorem idx_2 : ∀ t : Fin cfg0.N, win0_2.index t = ![t.val / 4, 13 + t.val % 4] := (by decide +kernel : ∀ t : Fin grid0.N, win0_2.index t = ![t.val / 4, 13 + t.val % 4])
theorem idx_3 : ∀ t : Fin cfg0.N, win0_3.index t = ![t.val / 4, 17 + t.val % 4] := (by decide +kernel : ∀ t : Fin grid0.N, win0_3.index t = ![t.val / 4, 17 + t.val % 4])
theorem idx_4 : ∀ t : Fin cfg0.N, win0_4.index t = ![t.val / 4, t.val % 4] := (by decide +kernel : ∀ t : Fin grid0.N, win0_4.index t = ![t.val / 4, t.val % 4])
theorem idx_5 : ∀ t : Fin cfg0.N, win0_5.index t = ![t.val / 4, t.val % 4] := (by decide +kernel : ∀ t : Fin grid0.N, win0_5.index t = ![t.val / 4, t.val % 4])

/-- The row of the result that row `r` of point `t`'s tile is, and its column. -/
def rowOf (t : Fin cfg0.N) (r : Fin 1024) : Fin 16384 := ⟨t.val / 4 * 1024 + r.val, by have h : t.val < 64 := t.isLt; omega⟩
def colOf (t : Fin cfg0.N) (l : Fin 512) : Fin 2048 := ⟨t.val % 4 * 512 + l.val, by omega⟩

variable (m : (ℓ : Loc nD τ sig) → Buf (Elt Ideal) ℓ) (ρ : Dev nD → PrngReg)

/-- The weight as the kernel takes it. -/
theorem V_w (c : Dev nD) : (V m c main_v0 : Vec Ideal S2048x2048 .bf16)
    = (truncf (F := Ideal) .bf16 (m ((c : Thread nD τ).loc main_arg3) : FVec Ideal S2048x2048 .f32) bitsLt_bf16_f32 : FVec Ideal S2048x2048 .bf16) := by
  unfold_abbrev_sides
  after_results <;> rfl

theorem blk_0 (c : Dev nD) (t : Fin cfg0.N) (r : Fin 1024) (k : Fin 2048) :
    (iblk m c 0 t : Vec Ideal S1024x2048 .bf16) (ix2 r k) = (m ((c : Thread nD τ).loc main_arg0) : Vec Ideal S16384x2048 .bf16) (ix2 (rowOf t r) k) := by
  rw [← V_main_arg0 m c]
  unfold iblk
  rw [View.read_apply]
  show V m c main_arg0 _ = V m c main_arg0 _
  generalize V m c main_arg0 = A
  exact congrArg A (tile_ix (win0_0.index t) (idx_0 t) (ix2 r k) _ (fun _ => rfl) _ _ rfl (by show k.val = 0 * 2048 + k.val; omega))

theorem blk_1 (c : Dev nD) (t : Fin cfg0.N) (k : Fin 2048) (l : Fin 512) :
    (iblk m c 1 t : Vec Ideal S2048x512 .bf16) (ix2 k l) = (m ((c : Thread nD τ).loc main_arg3) : Vec Ideal S2048x2048 .f32) (ix2 k (colOf t l)) := by
  have e : (V m c main_v0 : Vec Ideal S2048x2048 .bf16) (ix2 k (colOf t l)) = (m ((c : Thread nD τ).loc main_arg3) : Vec Ideal S2048x2048 .f32) (ix2 k (colOf t l)) := by
    rw [V_w]; rfl
  rw [← e]
  unfold iblk
  rw [View.read_apply]
  show V m c main_v0 _ = V m c main_v0 _
  generalize V m c main_v0 = A
  exact congrArg A (tile_ix (win0_1.index t) (idx_1 t) (ix2 k l) _ (fun _ => rfl) _ _ (by show k.val = 0 * 2048 + k.val; omega) rfl)

theorem blk_2 (c : Dev nD) (t : Fin cfg0.N) (r : Fin 1024) (l : Fin 512) :
    (iblk m c 2 t : Vec Ideal S1024x512 .f32) (ix2 r l) = (m ((c : Thread nD τ).loc main_arg1) : Vec Ideal S16384x10752 .f32)
      (ix2 (rowOf t r) (⟨6656 + (colOf t l).val, by have := (colOf t l).isLt; omega⟩ : Fin 10752)) := by
  rw [← V_main_arg1 m c]
  unfold iblk
  rw [View.read_apply]
  show V m c main_arg1 _ = V m c main_arg1 _
  generalize V m c main_arg1 = A
  refine congrArg A (tile_ix (win0_2.index t) (idx_2 t) (ix2 r l) _ (fun _ => rfl) _ _ rfl ?_)
  show 6656 + (t.val % 4 * 512 + l.val) = (13 + t.val % 4) * 512 + l.val
  omega

theorem blk_3 (c : Dev nD) (t : Fin cfg0.N) (r : Fin 1024) (l : Fin 512) :
    (iblk m c 3 t : Vec Ideal S1024x512 .f32) (ix2 r l) = (m ((c : Thread nD τ).loc main_arg1) : Vec Ideal S16384x10752 .f32)
      (ix2 (rowOf t r) (⟨8704 + (colOf t l).val, by have := (colOf t l).isLt; omega⟩ : Fin 10752)) := by
  rw [← V_main_arg1 m c]
  unfold iblk
  rw [View.read_apply]
  show V m c main_arg1 _ = V m c main_arg1 _
  generalize V m c main_arg1 = A
  refine congrArg A (tile_ix (win0_3.index t) (idx_3 t) (ix2 r l) _ (fun _ => rfl) _ _ rfl ?_)
  show 8704 + (t.val % 4 * 512 + l.val) = (17 + t.val % 4) * 512 + l.val
  omega

theorem blk_4 (c : Dev nD) (t : Fin cfg0.N) (r : Fin 1024) (l : Fin 512) :
    (iblk m c 4 t : Vec Ideal S1024x512 .f32) (ix2 r l) = (m ((c : Thread nD τ).loc main_arg2) : Vec Ideal S16384x2048 .f32)
      (ix2 (rowOf t r) (colOf t l)) := by
  rw [← V_main_arg2 m c]
  unfold iblk
  rw [View.read_apply]
  show V m c main_arg2 _ = V m c main_arg2 _
  generalize V m c main_arg2 = A
  exact congrArg A (tile_ix (win0_4.index t) (idx_4 t) (ix2 r l) _ (fun _ => rfl) _ _ rfl rfl)

/-! ## The whole result -/

/-- The result, from the arguments. -/
def result (c : Dev nD) : Vec Ideal S16384x2048 .bf16 := fun i =>
  merged (m ((c : Thread nD τ).loc main_arg0)) (m ((c : Thread nD τ).loc main_arg1)) (m ((c : Thread nD τ).loc main_arg2))
    (m ((c : Thread nD τ).loc main_arg3)) (i 0) (i 1)

theorem flushed_eq (c : Dev nD) (t : Fin cfg0.N) (_ : (cfg0.win 5).flush t = true) :
    (dats m 0 c).flushed 5 t = ((cfg0.win 5).blk t).view.read (Elt Ideal) (result m c) := by
  rw [Value.flushed5]
  funext j
  refine Eq.trans ?_ (View.read_apply ..).symm
  show out0_5 (iblk m c 0 t) (iblk m c 1 t) (iblk m c 2 t) (iblk m c 3 t) (iblk m c 4 t) (j : S1024x512.Idx) = result m c _
  refine Eq.trans ?_ (congrArg (result m c) (tile_ix (win0_5.index t) (idx_5 t) (j : S1024x512.Idx) _ (fun _ => rfl)
    (rowOf t ((j : S1024x512.Idx) 0)) (colOf t ((j : S1024x512.Idx) 1)) rfl rfl)).symm
  generalize (j : S1024x512.Idx) = y
  idx_vars y
  rw [out_eq, pay1_apply, blk_2, blk_3, blk_4]
  simp only [blk_0, blk_1]
  rfl

theorem covered (i : S16384x2048.Idx) : ∃ t : Fin cfg0.N, (cfg0.win 5).flush t = true ∧ i ∈ ((cfg0.win 5).blk t).view.set := by
  have h0 : (i 0).val < 16384 := (i 0).isLt
  have h1 : (i 1).val < 2048 := (i 1).isLt
  let t : Fin cfg0.N := ⟨4 * ((i 0).val / 1024) + (i 1).val / 512, show 4 * ((i 0).val / 1024) + (i 1).val / 512 < 64 by omega⟩
  have e0 : t.val / 4 = (i 0).val / 1024 := by show (4 * ((i 0).val / 1024) + (i 1).val / 512) / 4 = _; omega
  have e1 : t.val % 4 = (i 1).val / 512 := by show (4 * ((i 0).val / 1024) + (i 1).val / 512) % 4 = _; omega
  refine ⟨t, flush0_5 _, ?_⟩
  refine ((Finset.ext_iff.mp (View.set_slice_whole _ _)) i).mpr (Rect.mem_set_unit.mpr ?_)
  exact mem_tile (b0 := 1024) (b1 := 512) (win0_5.index t) (idx_5 t) i (by rw [e0]; omega) (by rw [e1]; omega)

theorem final_eq (c : Dev nD) : (dats m 0 c).arrAt 5 cfg0.N = result m c :=
  (dats m 0 c).arrAt_eq_of_cover 5 (result m c) (flushed_eq m c) covered

/-! ## The reference, and the claims -/

open Cert.Reference3Ideal.Read in
theorem reference_apply (a p q w) (r : Fin 16384) (l : Fin 2048) : val_main_v19 (F := Ideal) a p q w (ix2 r l) = merged a p q w r l := by
  unfold val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1
    val_main_v0 val_main_cst val_main_cst_0 val_main_cst_1 val_main_cst_2
  pointwise []
  rfl

end Cert.Kernel3Ideal.Val

namespace Cert.Merge

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel's merge is the reference's. -/
theorem algebraic : Cert.algebraic_Kernel3Ideal_Reference3Ideal := by
  intro m g m' g' _ hag
  refine ⟨fun c => Cert.Kernel3Ideal.Val.result m c, ?_, ?_⟩
  · refine (θ_run Cert.Kernel3Ideal.defs _ _).mono (fun _ h c => ⟨(h c).1.trans (Cert.Kernel3Ideal.Val.final_eq m c), (h c).2⟩)
      (Cert.Kernel3Ideal.Value.run_blocks (F := Ideal) m g)
  · refine (θ_run Cert.Reference3Ideal.defs _ _).mono (fun _ h c => ⟨(h c).1.trans ?_, (h c).2⟩)
      (Cert.Reference3Ideal.Value.run (F := Ideal) m' g')
    rw [Cert.Reference3Ideal.Read.val_main_v19_eq]
    obtain ⟨e0, e1, e2, e3⟩ := hag c
    rw [e0, e1, e2, e3]
    refine funext fun (y : (⟨2, ![16384, 2048]⟩ : Shape).Idx) => ?_
    idx_vars y
    exact Cert.Kernel3Ideal.Val.reference_apply _ _ _ _ y0 y1

end Cert.Merge

end
-- ==== Proof.Resid.lean ====
/-
  The output projection added to the residual stream under the group's gate: what each grid point writes is the point's tile of
  ONE function of the arguments, the tiles cover the result, and that function is the reference's.
-/
module

public import proofs.«01_k».proof.Proof.Gen.Kernel4Ideal.Value
public import proofs.«01_k».proof.Proof.Gen.Kernel4.Frame
public import proofs.«01_k».proof.Proof.Gen.Reference4Ideal.Read
public import proofs.«01_k».proof.Proof.Tiles
public import proofs.«01_k».proof.Defs

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Cert.Tiles

/-- The residual at row `r` (position `r % 2048` of sequence `r / 2048`) and column `l`. -/
def residual (x : Vec Ideal S8x2048x2048 .f32) (a : Vec Ideal S16384x2048 .bf16) (g : Vec Ideal S8x1x2048 .f32)
    (w : Vec Ideal S2048x2048 .f32) (r : Fin 16384) (l : Fin 2048) : EReal :=
  x (ix3 (⟨r.val / 2048, by omega⟩ : Fin 8) (⟨r.val % 2048, by omega⟩ : Fin 2048) l)
    + g (ix3 (⟨r.val / 2048, by omega⟩ : Fin 8) (0 : Fin 1) l) * (∑ k : Fin 2048, a (ix2 r k) * w (ix2 k l))

/-! ## One tile -/

theorem pay1_apply (a : Vec Ideal S1024x2048 .bf16) (w : Vec Ideal S2048x512 .bf16) (x : Vec Ideal S1024x512 .f32)
    (g : Vec Ideal S1x1x512 .f32) (r : Fin 1024) (l : Fin 512) :
    k0_pay1 a w x g (ix2 r l)
      = x (ix2 r l) + g (ix3 (0 : Fin 1) (0 : Fin 1) l) * (∑ k : Fin 2048, a (ix2 r k) * w (ix2 k l)) := by
  pointwise [k0_pay1]

theorem out_eq (a : Vec Ideal S1024x2048 .bf16) (w : Vec Ideal S2048x512 .bf16) (x : Vec Ideal S1024x512 .f32)
    (g : Vec Ideal S1x1x512 .f32) : out0_4 a w x g = k0_pay1 a w x g := by
  have hz : (![0, 0] : Fin 2 → Nat) = fun _ => 0 := by decide
  have hz3 : (![0, 0, 0] : Fin 3 → Nat) = fun _ => 0 := by decide
  unfold out0_4
  rw [View.ld_unit_zero (S := S1024x2048) hz, View.ld_unit_zero (S := S2048x512) hz, View.ld_unit_zero (S := S1x1x512) hz3,
    View.ld_unit_zero (S := S1024x512) hz]
  exact View.canon_cons_unit_zero (S := S1024x512) hz _ _ _

/-! ## The tiles' places -/

theorem idx_0 : ∀ t : Fin cfg0.N, win0_0.index t = ![t.val / 4, 0] :=
  (by decide +kernel : ∀ t : Fin grid0.N, win0_0.index t = ![t.val / 4, 0])
theorem idx_1 : ∀ t : Fin cfg0.N, win0_1.index t = ![0, t.val % 4] :=
  (by decide +kernel : ∀ t : Fin grid0.N, win0_1.index t = ![0, t.val % 4])
theorem idx_2 : ∀ t : Fin cfg0.N, win0_2.index t = ![t.val / 4, t.val % 4] :=
  (by decide +kernel : ∀ t : Fin grid0.N, win0_2.index t = ![t.val / 4, t.val % 4])
theorem idx_3 : ∀ t : Fin cfg0.N, win0_3.index t = ![t.val / 8, 0, t.val % 4] :=
  (by decide +kernel : ∀ t : Fin grid0.N, win0_3.index t = ![t.val / 8, 0, t.val % 4])
theorem idx_4 : ∀ t : Fin cfg0.N, win0_4.index t = ![t.val / 4, t.val % 4] :=
  (by decide +kernel : ∀ t : Fin grid0.N, win0_4.index t = ![t.val / 4, t.val % 4])

/-- The row of the result that row `r` of point `t`'s tile is, and its column. -/
def rowOf (t : Fin cfg0.N) (r : Fin 1024) : Fin 16384 := ⟨t.val / 4 * 1024 + r.val, by have h : t.val < 64 := t.isLt; omega⟩
def colOf (t : Fin cfg0.N) (l : Fin 512) : Fin 2048 := ⟨t.val % 4 * 512 + l.val, by omega⟩

variable (m : (ℓ : Loc nD τ sig) → Buf (Elt Ideal) ℓ) (ρ : Dev nD → PrngReg)

/-- The residual stream and the weight as the kernel takes them. -/
theorem V_x (c : Dev nD) : (V m c main_v1 : Vec Ideal S16384x2048 .f32)
    = shapeCast _ (m ((c : Thread nD τ).loc main_arg0)) shapeCasts_S8x2048x2048_S16384x2048 := by
  unfold_abbrev_sides
  after_results <;> rfl

theorem V_w (c : Dev nD) : (V m c main_v0 : Vec Ideal S2048x2048 .bf16)
    = (truncf (F := Ideal) .bf16 (m ((c : Thread nD τ).loc main_arg3) : FVec Ideal S2048x2048 .f32) bitsLt_bf16_f32 : FVec Ideal S2048x2048 .bf16) := by
  unfold_abbrev_sides
  after_results <;> rfl

theorem x_apply (x : Vec Ideal S8x2048x2048 .f32) (r : Fin 16384) (l : Fin 2048) :
    (shapeCast S16384x2048 x shapeCasts_S8x2048x2048_S16384x2048 : Vec Ideal S16384x2048 .f32) (ix2 r l)
      = x (ix3 (⟨r.val / 2048, by omega⟩ : Fin 8) (⟨r.val % 2048, by omega⟩ : Fin 2048) l) := by
  pointwise []

theorem blk_0 (c : Dev nD) (t : Fin cfg0.N) (r : Fin 1024) (k : Fin 2048) :
    (iblk m c 0 t : Vec Ideal S1024x2048 .bf16) (ix2 r k) = (m ((c : Thread nD τ).loc main_arg1) : Vec Ideal S16384x2048 .bf16) (ix2 (rowOf t r) k) := by
  rw [← V_main_arg1 m c]
  unfold iblk
  rw [View.read_apply]
  show V m c main_arg1 _ = V m c main_arg1 _
  generalize V m c main_arg1 = A
  exact congrArg A (tile_ix (win0_0.index t) (idx_0 t) (ix2 r k) _ (fun _ => rfl) _ _ rfl (by show k.val = 0 * 2048 + k.val; omega))

theorem blk_1 (c : Dev nD) (t : Fin cfg0.N) (k : Fin 2048) (l : Fin 512) :
    (iblk m c 1 t : Vec Ideal S2048x512 .bf16) (ix2 k l) = (m ((c : Thread nD τ).loc main_arg3) : Vec Ideal S2048x2048 .f32) (ix2 k (colOf t l)) := by
  refine Eq.trans ?_ (congrFun (V_w m c) (ix2 k (colOf t l)))
  unfold iblk
  rw [View.read_apply]
  show V m c main_v0 _ = V m c main_v0 _
  generalize V m c main_v0 = A
  exact congrArg A (tile_ix (win0_1.index t) (idx_1 t) (ix2 k l) _ (fun _ => rfl) _ _ (by show k.val = 0 * 2048 + k.val; omega) rfl)

theorem blk_2 (c : Dev nD) (t : Fin cfg0.N) (r : Fin 1024) (l : Fin 512) :
    (iblk m c 2 t : Vec Ideal S1024x512 .f32) (ix2 r l) = (m ((c : Thread nD τ).loc main_arg0) : Vec Ideal S8x2048x2048 .f32)
      (ix3 (⟨(rowOf t r).val / 2048, by omega⟩ : Fin 8) (⟨(rowOf t r).val % 2048, by omega⟩ : Fin 2048) (colOf t l)) := by
  refine Eq.trans ?_ ((congrFun (V_x m c) (ix2 (rowOf t r) (colOf t l))).trans (x_apply _ _ _))
  unfold iblk
  rw [View.read_apply]
  show V m c main_v1 _ = V m c main_v1 _
  generalize V m c main_v1 = A
  exact congrArg A (tile_ix (win0_2.index t) (idx_2 t) (ix2 r l) _ (fun _ => rfl) _ _ rfl rfl)

theorem blk_3 (c : Dev nD) (t : Fin cfg0.N) (r : Fin 1024) (l : Fin 512) :
    (iblk m c 3 t : Vec Ideal S1x1x512 .f32) (ix3 (0 : Fin 1) (0 : Fin 1) l) = (m ((c : Thread nD τ).loc main_arg2) : Vec Ideal S8x1x2048 .f32)
      (ix3 (⟨(rowOf t r).val / 2048, by omega⟩ : Fin 8) (0 : Fin 1) (colOf t l)) := by
  rw [← V_main_arg2 m c]
  unfold iblk
  rw [View.read_apply]
  show V m c main_arg2 _ = V m c main_arg2 _
  generalize V m c main_arg2 = A
  refine congrArg A (tile_ix3 (win0_3.index t) (idx_3 t) (ix3 (0 : Fin 1) (0 : Fin 1) l) _ (fun _ => rfl) _ _ _ ?_ rfl rfl)
  show (t.val / 4 * 1024 + r.val) / 2048 = t.val / 8 * 1 + 0
  omega

/-! ## The whole result -/

/-- The result, from the arguments. -/
def result (c : Dev nD) : Vec Ideal S16384x2048 .f32 := fun i =>
  residual (m ((c : Thread nD τ).loc main_arg0)) (m ((c : Thread nD τ).loc main_arg1)) (m ((c : Thread nD τ).loc main_arg2))
    (m ((c : Thread nD τ).loc main_arg3)) (i 0) (i 1)

theorem flushed_eq (c : Dev nD) (t : Fin cfg0.N) (_ : (cfg0.win 4).flush t = true) :
    (dats m 0 c).flushed 4 t = ((cfg0.win 4).blk t).view.read (Elt Ideal) (result m c) := by
  rw [Value.flushed4]
  funext j
  refine Eq.trans ?_ (View.read_apply ..).symm
  show out0_4 (iblk m c 0 t) (iblk m c 1 t) (iblk m c 2 t) (iblk m c 3 t) (j : S1024x512.Idx) = result m c _
  refine Eq.trans ?_ (congrArg (result m c) (tile_ix (win0_4.index t) (idx_4 t) (j : S1024x512.Idx) _ (fun _ => rfl)
    (rowOf t ((j : S1024x512.Idx) 0)) (colOf t ((j : S1024x512.Idx) 1)) rfl rfl)).symm
  generalize (j : S1024x512.Idx) = y
  idx_vars y
  rw [out_eq, pay1_apply, blk_2, blk_3 m c t y0]
  simp only [blk_0, blk_1]
  rfl

theorem covered (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  let t : Fin cfg0.N := ⟨4 * ((i 0).val / 1024) + (i 1).val / 512, show 4 * ((i 0).val / 1024) + (i 1).val / 512 < 64 by omega⟩
  have e0 : t.val / 4 = (i 0).val / 1024 := by show (4 * ((i 0).val / 1024) + (i 1).val / 512) / 4 = _; omega
  have e1 : t.val % 4 = (i 1).val / 512 := by show (4 * ((i 0).val / 1024) + (i 1).val / 512) % 4 = _; omega
  refine ⟨t, flush0_4 _, ?_⟩
  refine ((Finset.ext_iff.mp (View.set_slice_whole _ _)) i).mpr (Rect.mem_set_unit.mpr ?_)
  exact mem_tile (b0 := 1024) (b1 := 512) (win0_4.index t) (idx_4 t) i (by rw [e0]; omega) (by rw [e1]; omega)

theorem final_eq (c : Dev nD) : (dats m 0 c).arrAt 4 cfg0.N = result m c :=
  (dats m 0 c).arrAt_eq_of_cover 4 (result m c) (flushed_eq m c) covered

/-! ## The reference, and the claims -/

open Cert.Reference4Ideal.Read in
theorem reference_apply (x a g w) (r : Fin 16384) (l : Fin 2048) : val_main_v6 (F := Ideal) x a g w (ix2 r l) = residual x a g w r l := by
  unfold val_main_v6 val_main_v5 val_main_v4 val_main_v3 val_main_v2 val_main_v1 val_main_v0
  pointwise []
  rfl

end Cert.Kernel4Ideal.Val

namespace Cert.Resid

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's residual is the reference's. -/
theorem algebraic : Cert.algebraic_Kernel4Ideal_Reference4Ideal := by
  intro m g m' g' _ hag
  refine ⟨fun c => Cert.Kernel4Ideal.Val.result m c, ?_, ?_⟩
  · refine (θ_run Cert.Kernel4Ideal.defs _ _).mono (fun _ h c => ⟨(h c).1.trans (Cert.Kernel4Ideal.Val.final_eq m c), (h c).2⟩)
      (Cert.Kernel4Ideal.Value.run_blocks (F := Ideal) m g)
  · refine (θ_run Cert.Reference4Ideal.defs _ _).mono (fun _ h c => ⟨(h c).1.trans ?_, (h c).2⟩)
      (Cert.Reference4Ideal.Value.run (F := Ideal) m' g')
    rw [Cert.Reference4Ideal.Read.val_main_v6_eq]
    obtain ⟨e0, e1, e2, e3⟩ := hag c
    rw [e0, e1, e2, e3]
    refine funext fun (y : (⟨2, ![16384, 2048]⟩ : Shape).Idx) => ?_
    idx_vars y
    exact Cert.Kernel4Ideal.Val.reference_apply _ _ _ _ y0 y1

end Cert.Resid

end
-- ==== Proof.PeerPoint.lean ====
/-
  PEER's query call, point by point: what the body stores at a row tile's first column tile, and what it stores at the others.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel5Ideal.Peer

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch: the first column tile. -/
abbrev cond (i : grid0.Coords) : Prop := k0_cond1 i = 1#1

set_option maxHeartbeats 1000000 in
/-- What a row tile's first point stores: the blocks of the scores, the blocks of the transposed rows, the rows in the scratch. -/
noncomputable def run_A (c : Dev nD) (i : grid0.Coords)
    (arg2 : Memref sig .tc .vmem S1024x2048 .f32) (harg2 : arg2.IsWhole)
    (arg3 : Memref sig .tc .vmem S1x1x2048 .f32) (harg3 : arg3.IsWhole)
    (arg4 : Memref sig .tc .vmem S1x1x2048 .f32) (harg4 : arg4.IsWhole)
    (arg5 : Memref sig .tc .vmem S1x2048 .f32) (harg5 : arg5.IsWhole)
    (arg6 : Memref sig .tc .vmem S2048x512 .bf16) (harg6 : arg6.IsWhole)
    (arg7 : Memref sig .tc .vmem S4x128x128 .bf16) (harg7 : arg7.IsWhole)
    (arg8 : Memref sig .tc .vmem S128x128 .bf16) (harg8 : arg8.IsWhole)
    (arg9 : Memref sig .tc .vmem S512x1024 .f32) (harg9 : arg9.IsWhole)
    (arg10 : Memref sig .tc .vmem S2048x1024 .bf16) (harg10 : arg10.IsWhole)
    (arg11 : Memref sig .tc .vmem S1024x2048 .bf16) (harg11 : arg11.IsWhole)
    (hc : cond i)
    (x0 : Vec F S1024x2048 .f32) (x1 : Vec F S1x1x2048 .f32) (x2 : Vec F S1x1x2048 .f32) (x3 : Vec F S1x2048 .f32) (x4 : Vec F S2048x512 .bf16) (x5 : Vec F S4x128x128 .bf16) (x6 : Vec F S128x128 .bf16) :
    Σ' (L7 : List (View.Piece (Elt F) S512x1024 .f32)), Σ' (L8 : List (View.Piece (Elt F) S2048x1024 .bf16)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f LS)) -∗ K ⟨⟩))
          ⊢ wp frame (wpE (defs₀ (F := F)) Variants.none c none) E (cc0_peer_query i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_peer_query_eq_skeleton]; unfold cc0_peer_query_skel
    simp only [k0_part5_eq_skeleton, k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

set_option maxHeartbeats 1000000 in
/-- What the other points store: the blocks of the scores. The scratch is read, and the staging memref of the transposed rows is not touched. -/
noncomputable def run_B (c : Dev nD) (i : grid0.Coords)
    (arg2 : Memref sig .tc .vmem S1024x2048 .f32) (harg2 : arg2.IsWhole)
    (arg3 : Memref sig .tc .vmem S1x1x2048 .f32) (harg3 : arg3.IsWhole)
    (arg4 : Memref sig .tc .vmem S1x1x2048 .f32) (harg4 : arg4.IsWhole)
    (arg5 : Memref sig .tc .vmem S1x2048 .f32) (harg5 : arg5.IsWhole)
    (arg6 : Memref sig .tc .vmem S2048x512 .bf16) (harg6 : arg6.IsWhole)
    (arg7 : Memref sig .tc .vmem S4x128x128 .bf16) (harg7 : arg7.IsWhole)
    (arg8 : Memref sig .tc .vmem S128x128 .bf16) (harg8 : arg8.IsWhole)
    (arg9 : Memref sig .tc .vmem S512x1024 .f32) (harg9 : arg9.IsWhole)
    (arg10 : Memref sig .tc .vmem S2048x1024 .bf16) (harg10 : arg10.IsWhole)
    (arg11 : Memref sig .tc .vmem S1024x2048 .bf16) (harg11 : arg11.IsWhole)
    (hc : ¬cond i)
    (x0 : Vec F S1024x2048 .f32) (x1 : Vec F S1x1x2048 .f32) (x2 : Vec F S1x1x2048 .f32) (x3 : Vec F S1x2048 .f32) (x4 : Vec F S2048x512 .bf16) (x5 : Vec F S4x128x128 .bf16) (x6 : Vec F S128x128 .bf16)
    (xs : Vec F S1024x2048 .bf16) :
    { L7 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (∃ f, arg9.view.loc (c : Thread nD τ) ↦[arg9.view.set]{fullShare} arg9.view.writes (Elt F) f L7) ∗ owns (c : Thread nD τ) arg11 fullShare xs) -∗ K ⟨⟩))
          ⊢ wp frame (wpE (defs₀ (F := F)) Variants.none c none) E (cc0_peer_query i arg2 harg2 arg3 harg3 arg4 harg4 arg5 harg5 arg6 harg6 arg7 harg7 arg8 harg8 arg9 harg9 arg10 harg10 arg11 harg11) K } := by
  refine ⟨?_, fun E K => ?run⟩
  case run =>
    simp only [cc0_peer_query_eq_skeleton]; unfold cc0_peer_query_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg11.read_unread _
    iexact HS

end Cert.Kernel5Ideal.Peer

end
-- ==== Proof.PeerFrame.lean ====
/-
  PEER's query call, run over its grid: the scratch carries a row tile's rows, and the transposed rows stay in their staging
  memref, untouched, until the row tile's last point writes them back.
-/
module

public import proofs.«01_k».proof.Proof.PeerPoint

@[expose] public section

set_option maxRecDepth 16384

noncomputable section

namespace Cert.Kernel5Ideal.Peer

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the launch -/

/-- A buffer's contents when the launch begins. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host's lines write no argument. -/
theorem V_arg (c : Dev nD) (b : Ref sig .tc) (hb : b = main_arg0 ∨ b = main_arg1 ∨ b = main_arg2 ∨ b = main_arg3 ∨ b = main_arg4 ∨ b = main_arg5) :
    V m c b = m ((c : Thread nD τ).loc b) := by
  rcases hb with rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The points -/

theorem hcond : ∀ t : Fin cfg0.N, cond (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond, k0_cond1, e0, e1]
    word_cmp
   : ∀ t : Fin grid0.N, cond (grid0.coords t) ↔ t.val % 4 = 0)

/-- Where the transposed rows' staging memref holds nothing yet: at a row tile's first point. -/
def freshTab : ℕ → Bool
  | 0 => true
  | n + 1 => (0x8888888888888888 : ℕ).testBit n

theorem freshTab_step : ∀ t : Fin cfg0.N,
    freshTab (t.val + 1) = ((cfg0.win 8).flush t || (cfg0.idle 8 (cfg0.grid.coords t) && freshTab t.val)) := by decide +kernel
theorem fresh_eq (t : Fin cfg0.N) : cfg0.fresh 8 t.val = freshTab t.val :=
  Pipeline.Cfg.fresh_tab cfg0 8 freshTab rfl freshTab_step t.val (Nat.le_of_lt t.isLt)
theorem live_A : ∀ t : Fin cfg0.N, cond (grid0.coords t) → cfg0.idle 8 (grid0.coords t) = false := by decide +kernel
theorem idle_B : ∀ t : Fin cfg0.N, ¬cond (grid0.coords t) → cfg0.idle 8 (grid0.coords t) = true := by decide +kernel
theorem notFresh_B : ∀ t : Fin cfg0.N, ¬cond (grid0.coords t) → cfg0.fresh 8 t.val = false := by
  intro t; rw [fresh_eq t]; revert t; decide +kernel

abbrev VO7 : View sig .tc .vmem S512x1024 .f32 := (Memref.whole cc0_stg7_0 : Memref sig .tc .vmem S512x1024 .f32).view
abbrev VO8 : View sig .tc .vmem S2048x1024 .bf16 := (Memref.whole cc0_stg8_0 : Memref sig .tc .vmem S2048x1024 .bf16).view
abbrev scM : Memref sig .tc .vmem S1024x2048 .bf16 := Memref.whole cc0_scratch0
abbrev VS : View sig .tc .vmem S1024x2048 .bf16 := scM.view

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x1024 .bf16 := win0_8.stage (cfg0.slots t 8)
abbrev hs0_8 (t : Fin cfg0.N) : (ms0_8 t).IsWhole := hstage0_8 ((cfg0.slots t 8).cast nbuf0_8)

theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What a point leaves -/

/-- The pieces that a row tile's first point stores, of the blocks of that point. -/
abbrev piecesA (c : Dev nD) (t : Fin cfg0.N) (h : t.val % 4 = 0) :=
  run_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM (Memref.isWhole_whole _) ((hcond t).mpr h)
    (iblk m c 0 t) (iblk m c 1 t) (iblk m c 2 t) (iblk m c 3 t) (iblk m c 4 t) (iblk m c 5 t) (iblk m c 6 t)

/-- The pieces that another point stores, of the blocks of that point and the rows in the scratch. -/
abbrev piecesB (c : Dev nD) (t : Fin cfg0.N) (h : ¬t.val % 4 = 0) (xs : Vec F S1024x2048 .bf16) :=
  run_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM (Memref.isWhole_whole _) (fun e => h ((hcond t).mp e))
    (iblk m c 0 t) (iblk m c 1 t) (iblk m c 2 t) (iblk m c 3 t) (iblk m c 4 t) (iblk m c 5 t) (iblk m c 6 t) xs

theorem cover_A7 (c : Dev nD) (t : Fin cfg0.N) (h : t.val % 4 = 0) (y : S512x1024.Idx) : ∃ pc ∈ (piecesA m c t h).1, y ∈ pc.1.set :=
  View.cover_of_tiledL (piecesA m c t h).1 S128x1024.size (by sl_kernel_rfl) y
theorem cover_A8 (c : Dev nD) (t : Fin cfg0.N) (h : t.val % 4 = 0) (y : S2048x1024.Idx) : ∃ pc ∈ (piecesA m c t h).2.1, y ∈ pc.1.set :=
  View.cover_of_tiledL (piecesA m c t h).2.1 S128x1024.size (by sl_kernel_rfl) y
theorem cover_AS (c : Dev nD) (t : Fin cfg0.N) (h : t.val % 4 = 0) (y : S1024x2048.Idx) : ∃ pc ∈ (piecesA m c t h).2.2.1, y ∈ pc.1.set :=
  View.cover_of_tiledL (piecesA m c t h).2.2.1 S1024x2048.size (by sl_kernel_rfl) y
theorem cover_B7 (c : Dev nD) (t : Fin cfg0.N) (h : ¬t.val % 4 = 0) (xs : Vec F S1024x2048 .bf16) (y : S512x1024.Idx) :
    ∃ pc ∈ (piecesB m c t h xs).1, y ∈ pc.1.set :=
  View.cover_of_tiledL (piecesB m c t h xs).1 S128x1024.size (by sl_kernel_rfl) y

/-- What the staging memrefs and the scratch hold after a row tile's first point: scores, transposed rows, rows. -/
def leftA (c : Dev nD) (t : Fin cfg0.N) (h : t.val % 4 = 0) : Vec F S512x1024 .f32 × Vec F S2048x1024 .bf16 × Vec F S1024x2048 .bf16 :=
  (VO7.read (Elt F) (VO7.writes (Elt F) VO7.junk (piecesA m c t h).1),
   VO8.read (Elt F) (VO8.writes (Elt F) VO8.junk (piecesA m c t h).2.1),
   VS.read (Elt F) (VS.writes (Elt F) VS.junk (piecesA m c t h).2.2.1))

/-- The scores after another point, from the rows in the scratch. -/
def leftB (c : Dev nD) (t : Fin cfg0.N) (h : ¬t.val % 4 = 0) (xs : Vec F S1024x2048 .bf16) : Vec F S512x1024 .f32 :=
  VO7.read (Elt F) (VO7.writes (Elt F) VO7.junk (piecesB m c t h xs).1)

/-- What they hold after point `n`: a point that is not a row tile's first keeps the transposed rows and the rows. -/
def left (c : Dev nD) : (n : ℕ) → n < cfg0.N → Vec F S512x1024 .f32 × Vec F S2048x1024 .bf16 × Vec F S1024x2048 .bf16
  | 0, hn => leftA m c ⟨0, hn⟩ (Nat.zero_mod _)
  | n + 1, hn =>
    if h : (n + 1) % 4 = 0 then leftA m c ⟨n + 1, hn⟩ h
    else (leftB m c ⟨n + 1, hn⟩ h (left c n (Nat.lt_of_succ_lt hn)).2.2, (left c n (Nat.lt_of_succ_lt hn)).2)

theorem left_A (c : Dev nD) (t : Fin cfg0.N) (h : t.val % 4 = 0) : left m c t.val t.isLt = leftA m c t h := by
  obtain ⟨n, hn⟩ := t
  cases n with
  | zero => exact rfl
  | succ n => exact dif_pos h

theorem left_B (c : Dev nD) (t : Fin cfg0.N) (h : ¬t.val % 4 = 0) :
    left m c t.val t.isLt = (leftB m c t h (left m c (t.val - 1) (Nat.lt_of_le_of_lt (Nat.sub_le _ _) t.isLt)).2.2,
      (left m c (t.val - 1) (Nat.lt_of_le_of_lt (Nat.sub_le _ _) t.isLt)).2) := by
  obtain ⟨n, hn⟩ := t
  cases n with
  | zero => exact absurd (Nat.zero_mod _) h
  | succ n => exact dif_neg h

/-! ## The sweep's data -/

/-- What the scratch holds between the points. -/
def PhiS (c : Dev nD) : (n : ℕ) → n ≤ cfg0.N → sProp 𝕄
  | 0, _ => Pipeline.ΦA spec0 c
  | n + 1, hn => iprop(iprop(owns (c : Thread nD τ) scM fullShare ((left m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((left m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((left m c (n - 1) (by omega)).2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t.val t.isLt).1
    | ⟨8, _⟩ => (left m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (left m c t.val t.isLt).1 := by dsimp only [dats]
theorem after_8 (c : Dev nD) (t : Fin cfg0.N) : (dats m 0 c).after 8 t = (left m c t.val t.isLt).2.1 := by dsimp only [dats]

theorem before_0 (c : Dev nD) (t : Fin cfg0.N) (d) : (dats m 0 c).before 0 t d = iblk m c 0 t := before_0_of m (dats m 0 c) (A_eq m c 0) (after_0 m c) t d
theorem before_1 (c : Dev nD) (t : Fin cfg0.N) (d) : (dats m 0 c).before 1 t d = iblk m c 1 t := before_1_of m (dats m 0 c) (A_eq m c 1) (after_1 m c) t d
theorem before_2 (c : Dev nD) (t : Fin cfg0.N) (d) : (dats m 0 c).before 2 t d = iblk m c 2 t := before_2_of m (dats m 0 c) (A_eq m c 2) (after_2 m c) t d
theorem before_3 (c : Dev nD) (t : Fin cfg0.N) (d) : (dats m 0 c).before 3 t d = iblk m c 3 t := before_3_of m (dats m 0 c) (A_eq m c 3) (after_3 m c) t d
theorem before_4 (c : Dev nD) (t : Fin cfg0.N) (d) : (dats m 0 c).before 4 t d = iblk m c 4 t := before_4_of m (dats m 0 c) (A_eq m c 4) (after_4 m c) t d
theorem before_5 (c : Dev nD) (t : Fin cfg0.N) (d) : (dats m 0 c).before 5 t d = iblk m c 5 t := before_5_of m (dats m 0 c) (A_eq m c 5) (after_5 m c) t d
theorem before_6 (c : Dev nD) (t : Fin cfg0.N) (d) : (dats m 0 c).before 6 t d = iblk m c 6 t := before_6_of m (dats m 0 c) (A_eq m c 6) (after_6 m c) t d

/-- Where the transposed rows are not stored, they stay as they were. -/
theorem carry_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [after_8, after_8]
  by_cases h : t.val % 4 = 0
  · rw [live_A t ((hcond t).mpr h)] at hi
    exact absurd hi Bool.false_ne_true
  · rw [left_B m c t h]

theorem before_8_B (c : Dev nD) (t : Fin cfg0.N) (h : ¬t.val % 4 = 0) (d) :
    (dats m 0 c).before 8 t d = (left m c (t.val - 1) (Nat.lt_of_le_of_lt (Nat.sub_le _ _) t.isLt)).2.1 := by
  rw [Dat.before_out_traj _ 8 rfl (fun _ _ => rfl) (carry_8 m c) t.val t rfl d,
    if_neg (by rw [notFresh_B t (fun e => h ((hcond t).mp e))]; exact Bool.false_ne_true)]
  dsimp only [dats]

/-! ## The body at a point -/

theorem leaves_0 (c : Dev nD) (t : Fin cfg0.N) : (dats m 0 c).leavesExact 0 t = owns (c : Thread nD τ) (ms0_0 t) fullShare (iblk m c 0 t) := by
  rw [← after_0 m c t]
theorem leaves_1 (c : Dev nD) (t : Fin cfg0.N) : (dats m 0 c).leavesExact 1 t = owns (c : Thread nD τ) (ms0_1 t) fullShare (iblk m c 1 t) := by
  rw [← after_1 m c t]
theorem leaves_2 (c : Dev nD) (t : Fin cfg0.N) : (dats m 0 c).leavesExact 2 t = owns (c : Thread nD τ) (ms0_2 t) fullShare (iblk m c 2 t) := by
  rw [← after_2 m c t]
theorem leaves_3 (c : Dev nD) (t : Fin cfg0.N) : (dats m 0 c).leavesExact 3 t = owns (c : Thread nD τ) (ms0_3 t) fullShare (iblk m c 3 t) := by
  rw [← after_3 m c t]
theorem leaves_4 (c : Dev nD) (t : Fin cfg0.N) : (dats m 0 c).leavesExact 4 t = owns (c : Thread nD τ) (ms0_4 t) fullShare (iblk m c 4 t) := by
  rw [← after_4 m c t]
theorem leaves_5 (c : Dev nD) (t : Fin cfg0.N) : (dats m 0 c).leavesExact 5 t = owns (c : Thread nD τ) (ms0_5 t) fullShare (iblk m c 5 t) := by
  rw [← after_5 m c t]
theorem leaves_6 (c : Dev nD) (t : Fin cfg0.N) : (dats m 0 c).leavesExact 6 t = owns (c : Thread nD τ) (ms0_6 t) fullShare (iblk m c 6 t) := by
  rw [← after_6 m c t]
theorem leaves_7 (c : Dev nD) (t : Fin cfg0.N) : (dats m 0 c).leavesExact 7 t = owns (c : Thread nD τ) (ms0_7 t) fullShare ((left m c t.val t.isLt).1) := by
  rw [← after_7 m c t]
theorem leaves_8_A (c : Dev nD) (t : Fin cfg0.N) (h : t.val % 4 = 0) :
    (dats m 0 c).leavesExact 8 t = owns (c : Thread nD τ) (ms0_8 t) fullShare ((left m c t.val t.isLt).2.1) := by
  rw [← after_8 m c t]
  unfold Dat.leavesExact; rw [live_A t ((hcond t).mpr h)]

/-- Where the body does not touch the transposed rows' memref, it hands it on as it was. -/
theorem leaves_8_B (c : Dev nD) (t : Fin cfg0.N) (h : ¬t.val % 4 = 0) :
    owns (c : Thread nD τ) (ms0_8 t) fullShare ((left m c (t.val - 1) (Nat.lt_of_le_of_lt (Nat.sub_le _ _) t.isLt)).2.1)
      ⊢ (dats m 0 c).leavesExact 8 t := by
  have hi : cfg0.idle 8 (grid0.coords t) = true := idle_B t (fun e => h ((hcond t).mp e))
  by_cases hf : (cfg0.win 8).flush t = true
  · rw [show (dats m 0 c).leavesExact 8 t = owns (c : Thread nD τ) (ms0_8 t) fullShare ((dats m 0 c).after 8 t) from by
      unfold Dat.leavesExact; rw [hi, hf], after_8, left_B m c t h]
  · rw [(dats m 0 c).leavesExact_idle 8 t hi (Bool.eq_false_iff.mpr hf)]
    iintro H
    iexists (left m c (t.val - 1) (Nat.lt_of_le_of_lt (Nat.sub_le _ _) t.isLt)).2.1
    rw [before_8_B m c t h]
    iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, PhiS_castSucc m c t]
  by_cases h : t.val % 4 = 0
  · rw [leaves_8_A m c t h, left_A m c t h]
    unfold leftA; dsimp only
    by_cases hz : t.val = 0
    · rw [PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((piecesA m c t h).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, ⟨%e7, H7⟩, ⟨%e8, H8⟩, ⟨%es, HS⟩⟩
      isplitl [HS Hg]
      · isplitl [HS]
        · unfold owns; iexists _; isplitr
          swap; · iexact HS
          ipureintro; exact View.read_writes_of_cover _ _ _ _ _ (cover_AS m c t h)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_A7 m c t h)
      unfold owns; iexists _; isplitr
      swap; · iexact H8
      ipureintro; exact View.read_writes_of_cover _ _ _ _ _ (cover_A8 m c t h)
    · rw [PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((piecesA m c t h).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexists _; iexact HS
      iintro ⟨H0, H1, H2, H3, H4, H5, H6, ⟨%e7, H7⟩, ⟨%e8, H8⟩, ⟨%es, HS⟩⟩
      isplitl [HS Hg]
      · isplitl [HS]
        · unfold owns; iexists _; isplitr
          swap; · iexact HS
          ipureintro; exact View.read_writes_of_cover _ _ _ _ _ (cover_AS m c t h)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_A7 m c t h)
      unfold owns; iexists _; isplitr
      swap; · iexact H8
      ipureintro; exact View.read_writes_of_cover _ _ _ _ _ (cover_A8 m c t h)
  · have hz : t.val ≠ 0 := fun e => h (by rw [e])
    rw [PhiS_pos m c _ _ hz, left_B m c t h]
    simp only [before_8_B m c t h]
    unfold leftB; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((piecesB m c t h _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_B7 m c t h _)
    iapply (leaves_8_B m c t h)
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]
  · iexists _; iexact HS
  iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- After a run, the arguments are unchanged. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_arg m c main_arg0 (by simp)),
   ((h c).1 2).trans (((dats m 0 c).arrAt_in 2 rfl _).trans ((A_eq m c 2).trans (V_arg m c main_arg1 (by simp)))),
   ((h c).1 1).trans (((dats m 0 c).arrAt_in 1 rfl _).trans ((A_eq m c 1).trans (V_arg m c main_arg2 (by simp)))),
   ((h c).2 main_arg3 (Pipeline.mem_restRefs_of main_arg3 (by decide) (by decide))).trans (V_arg m c main_arg3 (by simp)),
   ((h c).2 main_arg4 (Pipeline.mem_restRefs_of main_arg4 (by decide) (by decide))).trans (V_arg m c main_arg4 (by simp)),
   ((h c).2 main_arg5 (Pipeline.mem_restRefs_of main_arg5 (by decide) (by decide))).trans (V_arg m c main_arg5 (by simp))⟩

theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept m r h.1 c, h.2⟩) (run_quiescent m ρ)

/-- A run, with each result's contents. -/
theorem run_results : θ_run defs (onTc (τ := τ) (main (F := F))) ⟨m, fun _ => 0, ρ⟩ (fun r => ∀ c : Dev nD,
      (r.2.mem ((c : Thread nD τ).loc main_v11_0) = (dats m 0 c).arrAt 7 cfg0.N
      ∧ r.2.mem ((c : Thread nD τ).loc main_v11_1) = (dats m 0 c).arrAt 8 cfg0.N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono (fun r h c => ⟨⟨(h.1 c).1 7, (h.1 c).1 8⟩, kept m r h.1 c⟩) (run_quiescent m ρ)

end Cert.Kernel5Ideal.Peer

end
-- ==== Proof.PeerPay.lean ====
/-
  PEER's query call, block by block: what a point stores, as 128-row blocks of the scores' tile and of the transposed rows' tile.
-/
module

public import proofs.«01_k».proof.Proof.Gen.Kernel5Ideal.Skeleton
public import proofs.«01_k».proof.Proof.ProjSpec
public import proofs.«01_k».proof.Proof.Tiles

@[expose] public section

set_option maxRecDepth 16384

noncomputable section

namespace Cert.Kernel5Ideal.Peer

open Cert.Kernel5Ideal Cert.Kernel5Ideal.Gen Idealize.ShloMosaic Idealize.ShloMosaic.TcCoe
open Cert.Proj Cert.Tiles

/-- The normalized and modulated rows of a row tile. -/
def hidTile (x : Vec Ideal S1024x2048 .f32) (s b : Vec Ideal S1x1x2048 .f32) (g : Vec Ideal S1x2048 .f32) : Vec Ideal S1024x2048 .bf16 :=
  fun y => hid (fun k => x (ix2 (y 0) k)) (fun k => g (ix2 0 k)) (fun k => s (ix3 0 0 k)) (fun k => b (ix3 0 0 k)) (y 1)

/-- The rows' tile transposed, each block of 128 by a product with a matrix `e`. -/
def transTile (h : Vec Ideal S1024x2048 .bf16) (e : Vec Ideal S128x128 .bf16) : Vec Ideal S2048x1024 .bf16 := fun y =>
  ∑ c : Fin 128, e (ix2 (⟨(y 0).val % 128, Nat.mod_lt _ (by decide)⟩ : Fin 128) c)
    * h (ix2 (y 1) (⟨(y 0).val / 128 * 128 + c.val, by have h0 : (y 0).val < 2048 := (y 0).isLt; omega⟩ : Fin 2048))

/-- The scores' tile: every half key against its 128 columns of the rows' queries. -/
def scoreTile (h : Vec Ideal S1024x2048 .bf16) (w : Vec Ideal S2048x512 .bf16) (ks : Vec Ideal S4x128x128 .bf16) : Vec Ideal S512x1024 .f32 := fun y =>
  ∑ c : Fin 128, ks (ix3 (⟨(y 0).val / 128, by have h0 : (y 0).val < 512 := (y 0).isLt; omega⟩ : Fin 4) (⟨(y 0).val % 128, Nat.mod_lt _ (by decide)⟩ : Fin 128) c)
    * ∑ k : Fin 2048, h (ix2 (y 1) k) * w (ix2 k (⟨(y 0).val / 128 * 128 + c.val, by have h0 : (y 0).val < 512 := (y 0).isLt; omega⟩ : Fin 512))

theorem pay2_eq (x : Vec Ideal S1024x2048 .f32) (s b : Vec Ideal S1x1x2048 .f32) (g : Vec Ideal S1x2048 .f32) :
    (k0_pay2 (F := Ideal) x g s b : Vec Ideal S1024x2048 .bf16) = hidTile x s b g := by
  refine funext fun (y : S1024x2048.Idx) => ?_
  idx_vars y
  show k0_pay2 (F := Ideal) x g s b (ix2 y0 y1) = _
  pointwise [k0_pay2]
  rfl

theorem pay3_eq (x : Vec Ideal S1024x2048 .f32) (s b : Vec Ideal S1x1x2048 .f32) (g : Vec Ideal S1x2048 .f32) :
    (k0_pay3 (F := Ideal) x g s b : Vec Ideal S1024x2048 .bf16) = hidTile x s b g := by
  rw [← pay2_eq]
  refine funext fun (y : S1024x2048.Idx) => ?_
  idx_vars y
  show k0_pay3 (F := Ideal) x g s b (ix2 y0 y1) = _
  unfold k0_pay3
  generalize k0_pay2 (F := Ideal) x g s b = z
  pointwise []

/-- The queries of a rows' tile. -/
theorem pay20_apply (h : Vec Ideal S1024x2048 .bf16) (w : Vec Ideal S2048x512 .bf16) (r : Fin 1024) (l : Fin 512) :
    k0_pay20 (F := Ideal) h w (ix2 r l) = ∑ k : Fin 2048, h (ix2 r k) * w (ix2 k l) := by
  pointwise [k0_pay20]

/-- A matrix against the rows of another. -/
theorem rows_apply (a : FVec Ideal S128x128 .bf16) (q : FVec Ideal S1024x128 .bf16) (l : Fin 128) (r : Fin 1024) :
    (matmul dot_S128x128_S1024x128_S128x1024_1_1_0_0_n_n none a q (constant S128x1024 .f32 0x00000000#32) : FVec Ideal S128x1024 .f32) (ix2 l r)
      = ∑ c : Fin 128, a (ix2 l c) * q (ix2 r c) := by
  pointwise []

/-- The block of transposed rows from row `off` on. -/
def transBlock (off : Nat) (hs : S1024x2048.Slices ![0, off] S1024x128) (h : FVec Ideal S1024x2048 .bf16) (e : Vec Ideal S128x128 .bf16) :
    FVec Ideal S128x1024 .bf16 :=
  truncf .bf16 (matmul dot_S128x128_S1024x128_S128x1024_1_1_0_0_n_n none (shapeCast S128x128 e shapeCasts_S128x128_S128x128 : FVec Ideal S128x128 .bf16)
    (extractStridedSlice S1024x128 ![0, off] h hs) (constant S128x1024 .f32 0x00000000#32)) bitsLt_bf16_f32

/-- The block of scores of one half key, from row `off` on. -/
def scoreBlock (off : Nat) (hs : S1024x512.Slices ![0, off] S1024x128) (h : FVec Ideal S1024x2048 .bf16) (w : Vec Ideal S2048x512 .bf16)
    (ks : Vec Ideal S1x128x128 .bf16) : FVec Ideal S128x1024 .f32 :=
  matmul dot_S128x128_S1024x128_S128x1024_1_1_0_0_n_n none (shapeCast S128x128 ks shapeCasts_S1x128x128_S128x128 : FVec Ideal S128x128 .bf16)
    (extractStridedSlice S1024x128 ![0, off] (k0_pay20 (F := Ideal) h w) hs) (constant S128x1024 .f32 0x00000000#32)

theorem same_apply (e : Vec Ideal S128x128 .bf16) (l c : Fin 128) :
    (shapeCast S128x128 e shapeCasts_S128x128_S128x128 : Vec Ideal S128x128 .bf16) (ix2 l c) = e (ix2 l c) := by
  pointwise []

theorem half_apply (ks : Vec Ideal S1x128x128 .bf16) (l c : Fin 128) :
    (shapeCast S128x128 ks shapeCasts_S1x128x128_S128x128 : Vec Ideal S128x128 .bf16) (ix2 l c) = ks (ix3 (0 : Fin 1) l c) := by
  pointwise []

/-- Where the block of 128 rows from `off` on puts an element. -/
theorem emb_val {n : Nat} (off : Nat) (inb : ∀ a, (![off, 0] : Fin 2 → Nat) a + S128x1024.size a ≤ (⟨2, ![n, 1024]⟩ : Shape).size a) (x : S128x1024.Idx) :
    ((Rect.unit (s := ⟨2, ![n, 1024]⟩) ![off, 0] S128x1024.size inb).emb x 0).val = off + (x 0).val
      ∧ ((Rect.unit (s := ⟨2, ![n, 1024]⟩) ![off, 0] S128x1024.size inb).emb x 1).val = (x 1).val :=
  ⟨show off + 1 * (x 0).val = _ by omega, show 0 + 1 * (x 1).val = _ by omega⟩

theorem trans_piece (off : Nat) (ho : off % 128 = 0) (hs : S1024x2048.Slices ![0, off] S1024x128) (h : FVec Ideal S1024x2048 .bf16)
    (e : Vec Ideal S128x128 .bf16) (inb : ∀ a, (![off, 0] : Fin 2 → Nat) a + S128x1024.size a ≤ S2048x1024.size a) (x : S128x1024.Idx) :
    transBlock off hs h e x = transTile h e ((Rect.unit (s := S2048x1024) ![off, 0] S128x1024.size inb).emb x) := by
  obtain ⟨v0, v1⟩ := emb_val (n := 2048) off inb x
  unfold transTile
  generalize (Rect.unit (s := S2048x1024) ![off, 0] S128x1024.size inb).emb x = y at v0 v1 ⊢
  have h0 : (y 0).val < 2048 := (y 0).isLt
  have ex : x = ix2 (x 0 : Fin 128) (x 1 : Fin 1024) := funext fun a => match a with | ⟨0, _⟩ => rfl | ⟨1, _⟩ => rfl
  have hx : (x 0).val < 128 := (x 0).isLt
  rw [ex]
  refine (rows_apply _ _ (x 0) (x 1)).trans (Finset.sum_congr rfl fun c _ => ?_)
  refine congrArg₂ (· * ·) ((same_apply e _ _).trans (congrArg (fun i => e (ix2 i c)) (Fin.ext ?_))) ((cols_apply h hs (x 1) c (⟨off + c.val, ?_⟩ : Fin 2048) rfl).trans
    (congrArg₂ (fun i j => h (ix2 i j)) (Fin.ext v1.symm) (Fin.ext ?_)))
  · show (x 0).val = (y 0).val % 128; omega
  · omega
  · show off + c.val = (y 0).val / 128 * 128 + c.val; omega

theorem score_piece (i : Fin 4) (off : Nat) (ho : off = i.val * 128) (hs : S1024x512.Slices ![0, off] S1024x128) (h : FVec Ideal S1024x2048 .bf16)
    (w : Vec Ideal S2048x512 .bf16) (ks : Vec Ideal S4x128x128 .bf16) (ki : Vec Ideal S1x128x128 .bf16)
    (hk : ∀ l c : Fin 128, ki (ix3 (0 : Fin 1) l c) = ks (ix3 i l c))
    (inb : ∀ a, (![off, 0] : Fin 2 → Nat) a + S128x1024.size a ≤ S512x1024.size a) (x : S128x1024.Idx) :
    scoreBlock off hs h w ki x = scoreTile h w ks ((Rect.unit (s := S512x1024) ![off, 0] S128x1024.size inb).emb x) := by
  obtain ⟨v0, v1⟩ := emb_val (n := 512) off inb x
  unfold scoreTile
  generalize (Rect.unit (s := S512x1024) ![off, 0] S128x1024.size inb).emb x = y at v0 v1 ⊢
  have h0 : (y 0).val < 512 := (y 0).isLt
  have ex : x = ix2 (x 0 : Fin 128) (x 1 : Fin 1024) := funext fun a => match a with | ⟨0, _⟩ => rfl | ⟨1, _⟩ => rfl
  have hx : (x 0).val < 128 := (x 0).isLt
  rw [ex]
  refine (rows_apply _ _ (x 0) (x 1)).trans (Finset.sum_congr rfl fun c _ => ?_)
  refine congrArg₂ (· * ·) ((half_apply ki _ _).trans ((hk _ c).trans (congrArg₂ (fun i j => ks (ix3 i j c)) (Fin.ext ?_) (Fin.ext ?_))))
    ((cols_apply _ hs (x 1) c (⟨off + c.val, ?_⟩ : Fin 512) rfl).trans ((pay20_apply h w _ _).trans (Finset.sum_congr rfl fun k _ =>
      congrArg₂ (· * ·) (congrArg (fun i => h (ix2 i k)) (Fin.ext v1.symm)) (congrArg (fun j => w (ix2 k j)) (Fin.ext ?_)))))
  · show i.val = (y 0).val / 128; omega
  · show (x 0).val = (y 0).val % 128; omega
  · omega
  · show off + c.val = (y 0).val / 128 * 128 + c.val; omega

/-- A half key loaded from the keys' block. -/
theorem half_read (i : Fin 4) (ks : Vec Ideal S4x128x128 .bf16) (inb : ∀ a, (![i.val, 0, 0] : Fin 3 → Nat) a + S1x128x128.size a ≤ S4x128x128.size a)
    (l c : Fin 128) : (View.ld (ks : S4x128x128.Idx → Elt Ideal .bf16) (Rect.unit (s := S4x128x128) ![i.val, 0, 0] S1x128x128.size inb) : Vec Ideal S1x128x128 .bf16) (ix3 (0 : Fin 1) l c) = ks (ix3 i l c) := by
  refine congrArg ks (funext fun a => Fin.ext ?_)
  match a with
  | ⟨0, _⟩ => show i.val + 1 * 0 = i.val; omega
  | ⟨1, _⟩ => show 0 + 1 * l.val = l.val; omega
  | ⟨2, _⟩ => show 0 + 1 * c.val = c.val; omega

end Cert.Kernel5Ideal.Peer

end
-- ==== Proof.PeerBody.lean ====
/-
  What each grid point of PEER's query call leaves: the scores' tile of the rows in the scratch; and at a row tile's first point the
  rows and the rows transposed, which the others keep.
-/
module

public import proofs.«01_k».proof.Proof.PeerFrame
public import proofs.«01_k».proof.Proof.PeerPay
public import Idealize.ShloMosaic.Lib.Pipeline.Value

@[expose] public section

set_option maxRecDepth 16384

noncomputable section

namespace Cert.Kernel5Ideal.Peer

open Cert.Kernel5Ideal Cert.Kernel5Ideal.Gen Idealize.ShloMosaic Idealize.ShloMosaic.TcCoe Idealize.SL.Sem

theorem hz2 : (![0, 0] : Fin 2 → Nat) = fun _ => 0 := by decide
theorem hz3 : (![0, 0, 0] : Fin 3 → Nat) = fun _ => 0 := by decide

/-- The four blocks of scores a point stores are its tile's. -/
theorem score_blocks (h : Vec Ideal S1024x2048 .bf16) (w : Vec Ideal S2048x512 .bf16) (ks : Vec Ideal S4x128x128 .bf16) :
    ∀ p ∈ ([⟨Rect.unit (s := S512x1024) ![384, 0] S128x1024.size inb_S512x1024_S128x1024_384_0, k0_pay1 (F := Ideal) (k0_pay24 (F := Ideal) (View.ld (ks : S4x128x128.Idx → Elt Ideal .bf16) (Rect.unit (s := S4x128x128) ![3, 0, 0] S1x128x128.size inb_S4x128x128_S1x128x128_3_0_0))) (k0_pay25 (F := Ideal) h w)⟩,
      ⟨Rect.unit (s := S512x1024) ![256, 0] S128x1024.size inb_S512x1024_S128x1024_256_0, k0_pay23 (F := Ideal) h w (View.ld (ks : S4x128x128.Idx → Elt Ideal .bf16) (Rect.unit (s := S4x128x128) ![2, 0, 0] S1x128x128.size inb_S4x128x128_S1x128x128_2_0_0))⟩,
      ⟨Rect.unit (s := S512x1024) ![128, 0] S128x1024.size inb_S512x1024_S128x1024_128_0, k0_pay22 (F := Ideal) h w (View.ld (ks : S4x128x128.Idx → Elt Ideal .bf16) (Rect.unit (s := S4x128x128) ![1, 0, 0] S1x128x128.size inb_S4x128x128_S1x128x128_1_0_0))⟩,
      ⟨Rect.unit (s := S512x1024) ![0, 0] S128x1024.size inb_S512x1024_S128x1024_0_0, k0_pay21 (F := Ideal) h w (View.ld (ks : S4x128x128.Idx → Elt Ideal .bf16) (Rect.unit (s := S4x128x128) ![0, 0, 0] S1x128x128.size inb_S4x128x128_S1x128x128_0_0_0))⟩] : List (View.Piece (Elt Ideal) S512x1024 .f32)), ∀ x, p.2 x = scoreTile h w ks (p.1.emb x) := by
  refine List.forall_mem_cons.2 ⟨fun x => score_piece 3 384 rfl slices_S1024x512_o0_384_S1024x128 h w ks _ (half_read 3 ks _) inb_S512x1024_S128x1024_384_0 x, ?_⟩
  refine List.forall_mem_cons.2 ⟨fun x => score_piece 2 256 rfl slices_S1024x512_o0_256_S1024x128 h w ks _ (half_read 2 ks _) inb_S512x1024_S128x1024_256_0 x, ?_⟩
  refine List.forall_mem_cons.2 ⟨fun x => score_piece 1 128 rfl slices_S1024x512_o0_128_S1024x128 h w ks _ (half_read 1 ks _) inb_S512x1024_S128x1024_128_0 x, ?_⟩
  refine List.forall_mem_cons.2 ⟨fun x => score_piece 0 0 rfl slices_S1024x512_o0_0_S1024x128 h w ks _ (half_read 0 ks _) inb_S512x1024_S128x1024_0_0 x, ?_⟩
  exact fun p hp => absurd hp List.not_mem_nil

variable (m : (ℓ : Loc nD τ sig) → Buf (Elt Ideal) ℓ)

/-- The scratch read whole. -/
theorem scratch_read (x : Vec Ideal S1024x2048 .bf16) :
    View.read (Elt Ideal) (View.whole cc0_scratch0) ((Memref.isWhole_whole cc0_scratch0).unread x) = x :=
  Memref.IsWhole.read_unread (Memref.isWhole_whole cc0_scratch0) x

/-- The rows of point `t`'s row tile, and the scores of its column tile from rows `h`. -/
def rowsAt (c : Dev nD) (t : Fin cfg0.N) : Vec Ideal S1024x2048 .bf16 := hidTile (iblk m c 0 t) (iblk m c 1 t) (iblk m c 2 t) (iblk m c 3 t)
def scoresAt (c : Dev nD) (t : Fin cfg0.N) (h : Vec Ideal S1024x2048 .bf16) : Vec Ideal S512x1024 .f32 := scoreTile h (iblk m c 4 t) (iblk m c 5 t)

set_option maxHeartbeats 4000000 in
theorem leftA_eq (c : Dev nD) (t : Fin cfg0.N) (h : t.val % 4 = 0) :
    leftA m c t h = (scoresAt m c t (rowsAt m c t), transTile (rowsAt m c t) (iblk m c 6 t), rowsAt m c t) := by
  unfold leftA scoresAt rowsAt
  refine Prod.ext ?_ (Prod.ext ?_ ?_)
  · dsimp only
    rw [View.read_writes_eq_canon _ _ _ (cover_A7 m c t h)]
    funext y
    refine View.canon_apply_of_pieces (Val := Elt Ideal) (S := S512x1024) (e := .f32) _ _ ?_ y (cover_A7 m c t h y)
    unfold piecesA run_A
    dsimp only
    sl_unfold_words
    simp only [View.readAt_eq_ld, Memref.IsWhole.read_unread, scratch_read, View.readCov_cons_toLoadRect, pay3_eq, View.ld_unit_zero (S := S1024x2048) hz2,
      View.ld_unit_zero (S := S2048x512) hz2, View.ld_unit_zero (S := S1x2048) hz2, View.ld_unit_zero (S := S1x1x2048) hz3]
    exact score_blocks _ _ _
  · dsimp only
    rw [View.read_writes_eq_canon _ _ _ (cover_A8 m c t h), ← pay2_eq]
    funext y
    refine View.canon_apply_of_pieces (Val := Elt Ideal) (S := S2048x1024) (e := .bf16) _ _ ?_ y (cover_A8 m c t h y)
    unfold piecesA run_A
    dsimp only
    sl_unfold_words
    simp only [View.readAt_eq_ld, Memref.IsWhole.read_unread, View.ld_unit_zero (S := S1024x2048) hz2, View.ld_unit_zero (S := S128x128) hz2,
      View.ld_unit_zero (S := S1x2048) hz2, View.ld_unit_zero (S := S1x1x2048) hz3]
    iterate 16 refine List.forall_mem_cons.2 ⟨fun x => trans_piece _ (by decide) (by decide) _ _ (by decide) x, ?_⟩
    exact fun p hp => absurd hp List.not_mem_nil
  · dsimp only
    rw [View.read_writes_eq_canon _ _ _ (cover_AS m c t h)]
    unfold piecesA run_A
    dsimp only
    sl_unfold_words
    simp only [View.readAt_eq_ld, Memref.IsWhole.read_unread, View.ld_unit_zero (S := S1024x2048) hz2,
      View.ld_unit_zero (S := S1x2048) hz2, View.ld_unit_zero (S := S1x1x2048) hz3]
    exact (View.canon_cons_unit_zero (S := S1024x2048) hz2 _ _ _).trans (pay3_eq _ _ _ _)

set_option maxHeartbeats 4000000 in
theorem leftB_eq (c : Dev nD) (t : Fin cfg0.N) (h : ¬t.val % 4 = 0) (xs : Vec Ideal S1024x2048 .bf16) :
    leftB m c t h xs = scoresAt m c t xs := by
  unfold leftB scoresAt
  rw [View.read_writes_eq_canon _ _ _ (cover_B7 m c t h xs)]
  funext y
  refine View.canon_apply_of_pieces (Val := Elt Ideal) (S := S512x1024) (e := .f32) _ _ ?_ y (cover_B7 m c t h xs y)
  unfold piecesB run_B
  dsimp only
  sl_unfold_words
  simp only [View.readAt_eq_ld, Memref.IsWhole.read_unread, scratch_read, View.ld_unit_zero (S := S1024x2048) hz2, View.ld_unit_zero (S := S2048x512) hz2]
  exact score_blocks _ _ _

end Cert.Kernel5Ideal.Peer

end
-- ==== Proof.PeerSpec.lean ====
/-
  PEER's query call over exact numbers: the score of every half key for every row.
-/
module

public import proofs.«01_k».proof.Proof.ProjSpec

@[expose] public section

noncomputable section

namespace Cert.Peer

open Idealize.ShloMosaic Cert.Proj

/-- The score of half key `e` for row `r`: the key against the row's query for its head and half. -/
def score (x : Vec Ideal ⟨3, ![8, 2048, 2048]⟩ .f32) (b s : Vec Ideal ⟨3, ![8, 1, 2048]⟩ .f32) (g : Vec Ideal ⟨1, ![2048]⟩ .f32)
    (wq : Vec Ideal ⟨2, ![2048, 2048]⟩ .f32) (keys : Vec Ideal ⟨4, ![8, 2, 128, 128]⟩ .f32) (e : Fin 2048) (r : Fin 16384) : EReal :=
  ∑ c : Fin 128, keys (ix4 (⟨e.val / 256, by omega⟩ : Fin 8) (⟨e.val / 128 % 2, by omega⟩ : Fin 2) (⟨e.val % 128, by omega⟩ : Fin 128) c)
    * ∑ k : Fin 2048, rowHid x b s g r k * wq (ix2 k (⟨e.val / 128 * 128 + c.val, by omega⟩ : Fin 2048))

end Cert.Peer

end
-- ==== Proof.PeerRun.lean ====
/-
  PEER's query call over its grid: the rows the scratch carries, the tiles every point leaves, and the tiles cover both results.
-/
module

public import proofs.«01_k».proof.Proof.PeerBody
public import proofs.«01_k».proof.Proof.PeerSpec

@[expose] public section

set_option maxRecDepth 16384

noncomputable section

namespace Cert.Kernel5Ideal.Peer

open Cert.Kernel5Ideal Cert.Kernel5Ideal.Gen Idealize.ShloMosaic Idealize.ShloMosaic.TcCoe Idealize.ShloMosaic.Tactic Idealize.SL.Sem
open Cert.Proj Cert.Peer Cert.Tiles

variable (m : (ℓ : Loc nD τ sig) → Buf (Elt Ideal) ℓ)

/-! ## The host's lines before the call -/

theorem V_x (c : Dev nD) : (V m c main_v2 : Vec Ideal S16384x2048 .f32)
    = shapeCast _ (m ((c : Thread nD τ).loc main_arg0)) shapeCasts_S8x2048x2048_S16384x2048 := by
  unfold_abbrev_sides
  after_results <;> rfl

theorem V_g (c : Dev nD) : (V m c main_v4 : Vec Ideal S1x2048 .f32)
    = shapeCast _ (m ((c : Thread nD τ).loc main_arg3)) shapeCasts_S2048_S1x2048 := by
  unfold_abbrev_sides
  after_results <;> rfl

theorem V_w (c : Dev nD) : (V m c main_v3 : Vec Ideal S2048x2048 .bf16)
    = (truncf (F := Ideal) .bf16 (m ((c : Thread nD τ).loc main_arg4) : FVec Ideal S2048x2048 .f32) bitsLt_bf16_f32 : FVec Ideal S2048x2048 .bf16) := by
  unfold_abbrev_sides
  after_results <;> rfl

theorem V_keys (c : Dev nD) : (V m c main_v1 : Vec Ideal S16x128x128 .bf16)
    = (truncf (F := Ideal) .bf16 (shapeCast S16x128x128 (m ((c : Thread nD τ).loc main_arg5) : FVec Ideal S8x2x128x128 .f32) shapeCasts_S8x2x128x128_S16x128x128 : FVec Ideal S16x128x128 .f32)
        bitsLt_bf16_f32 : FVec Ideal S16x128x128 .bf16) := by
  unfold_abbrev_sides
  after_results <;> rfl

/-- The identity matrix as the host makes it. -/
def eye : Vec Ideal S128x128 .bf16 :=
  (uitofp (F := Ideal) .bf16 (cmpi .eq (addi (iotaInDim S128x128 32 0) (broadcastInDim S128x128 ![] bcast_S_S128x128 (constantI S_ 32 0#32))) (iotaInDim S128x128 32 1)) : FVec Ideal S128x128 .bf16)

theorem V_eye (c : Dev nD) : (V m c main_v10 : Vec Ideal S128x128 .bf16) = eye := by
  unfold eye
  unfold_abbrev_sides
  after_results <;> rfl

theorem x_apply (x : Vec Ideal S8x2048x2048 .f32) (r : Fin 16384) (l : Fin 2048) :
    (shapeCast S16384x2048 x shapeCasts_S8x2048x2048_S16384x2048 : Vec Ideal S16384x2048 .f32) (ix2 r l)
      = x (ix3 (⟨r.val / 2048, by omega⟩ : Fin 8) (⟨r.val % 2048, by omega⟩ : Fin 2048) l) := by
  pointwise []

theorem g_apply (g : Vec Ideal S2048 .f32) (l : Fin 2048) :
    (shapeCast S1x2048 g shapeCasts_S2048_S1x2048 : Vec Ideal S1x2048 .f32) (ix2 (0 : Fin 1) l) = g (ix1 l) := by
  pointwise []

theorem keys_apply (k : FVec Ideal S8x2x128x128 .f32) (q : Fin 16) (l c : Fin 128) :
    (truncf (F := Ideal) .bf16 (shapeCast S16x128x128 k shapeCasts_S8x2x128x128_S16x128x128 : FVec Ideal S16x128x128 .f32) bitsLt_bf16_f32 : FVec Ideal S16x128x128 .bf16) (ix3 q l c)
      = k (ix4 (⟨q.val / 2, by omega⟩ : Fin 8) (⟨q.val % 2, by omega⟩ : Fin 2) l c) := by
  pointwise []

theorem same_bit : ∀ l c : Fin 128, IntOp.cmpi CmpIPredicate.eq (IntOp.addi (BitVec.ofNat 32 l.val) 0#32) (BitVec.ofNat 32 c.val)
    = if l = c then 1#1 else 0#1 := by decide +kernel

theorem one_bit : (FloatOps.uitofp (F := Ideal) FTy.bf16 (1#1) : EReal) = 1 := by
  show (((1#1 : BitVec 1).toNat : ℝ) : EReal) = 1
  norm_num

theorem zero_bit : (FloatOps.uitofp (F := Ideal) FTy.bf16 (0#1) : EReal) = 0 := by
  show (((0#1 : BitVec 1).toNat : ℝ) : EReal) = 0
  norm_num

theorem eye_apply (l c : Fin 128) : eye (ix2 l c) = if l = c then (1 : EReal) else 0 := by
  pointwise [eye]
  rw [same_bit l c]
  by_cases h : l = c
  · rw [if_pos h, if_pos h]; exact one_bit
  · rw [if_neg h, if_neg h]; exact zero_bit

/-! ## The blocks' places -/

theorem idx_0 : ∀ t : Fin cfg0.N, win0_0.index t = ![t.val / 4, 0] := (by decide +kernel : ∀ t : Fin grid0.N, win0_0.index t = ![t.val / 4, 0])
theorem idx_1 : ∀ t : Fin cfg0.N, win0_1.index t = ![t.val / 8, 0, 0] := (by decide +kernel : ∀ t : Fin grid0.N, win0_1.index t = ![t.val / 8, 0, 0])
theorem idx_2 : ∀ t : Fin cfg0.N, win0_2.index t = ![t.val / 8, 0, 0] := (by decide +kernel : ∀ t : Fin grid0.N, win0_2.index t = ![t.val / 8, 0, 0])
theorem idx_3 : ∀ t : Fin cfg0.N, win0_3.index t = ![0, 0] := (by decide +kernel : ∀ t : Fin grid0.N, win0_3.index t = ![0, 0])
theorem idx_4 : ∀ t : Fin cfg0.N, win0_4.index t = ![0, t.val % 4] := (by decide +kernel : ∀ t : Fin grid0.N, win0_4.index t = ![0, t.val % 4])
theorem idx_5 : ∀ t : Fin cfg0.N, win0_5.index t = ![t.val % 4, 0, 0] := (by decide +kernel : ∀ t : Fin grid0.N, win0_5.index t = ![t.val % 4, 0, 0])
theorem idx_6 : ∀ t : Fin cfg0.N, win0_6.index t = ![0, 0] := (by decide +kernel : ∀ t : Fin grid0.N, win0_6.index t = ![0, 0])
theorem idx_7 : ∀ t : Fin cfg0.N, win0_7.index t = ![t.val % 4, t.val / 4] := (by decide +kernel : ∀ t : Fin grid0.N, win0_7.index t = ![t.val % 4, t.val / 4])
theorem idx_8 : ∀ t : Fin cfg0.N, win0_8.index t = ![0, t.val / 4] := (by decide +kernel : ∀ t : Fin grid0.N, win0_8.index t = ![0, t.val / 4])

/-- The row that row `r` of point `t`'s row tile is, its sequence and its position; the score that column `l` of its column tile is. -/
def rowOf (t : Fin cfg0.N) (r : Fin 1024) : Fin 16384 := ⟨t.val / 4 * 1024 + r.val, by have h : t.val < 64 := t.isLt; omega⟩
def colOf (t : Fin cfg0.N) (l : Fin 512) : Fin 2048 := ⟨t.val % 4 * 512 + l.val, by omega⟩
def seqOf (t : Fin cfg0.N) (r : Fin 1024) : Fin 8 := ⟨(rowOf t r).val / 2048, by omega⟩
def posOf (t : Fin cfg0.N) (r : Fin 1024) : Fin 2048 := ⟨(rowOf t r).val % 2048, by omega⟩
def keyOf (t : Fin cfg0.N) (i : Fin 4) : Fin 16 := ⟨t.val % 4 * 4 + i.val, by omega⟩

theorem seqOf_val (t : Fin cfg0.N) (r : Fin 1024) : (seqOf t r).val = t.val / 8 := by
  show (t.val / 4 * 1024 + r.val) / 2048 = _; omega

theorem blk_0 (c : Dev nD) (t : Fin cfg0.N) (r : Fin 1024) (k : Fin 2048) :
    (iblk m c 0 t : Vec Ideal S1024x2048 .f32) (ix2 r k) = (m ((c : Thread nD τ).loc main_arg0) : Vec Ideal S8x2048x2048 .f32) (ix3 (seqOf t r) (posOf t r) k) := by
  refine Eq.trans ?_ ((congrFun (V_x m c) (ix2 (rowOf t r) k)).trans (x_apply _ (rowOf t r) k))
  unfold iblk
  rw [View.read_apply]
  show V m c main_v2 _ = V m c main_v2 _
  generalize V m c main_v2 = A
  exact congrArg A (tile_ix (win0_0.index t) (idx_0 t) (ix2 r k) _ (fun _ => rfl) _ _ rfl (by show k.val = 0 * 2048 + k.val; omega))

theorem blk_1 (c : Dev nD) (t : Fin cfg0.N) (r : Fin 1024) (k : Fin 2048) :
    (iblk m c 1 t : Vec Ideal S1x1x2048 .f32) (ix3 (0 : Fin 1) (0 : Fin 1) k) = (m ((c : Thread nD τ).loc main_arg2) : Vec Ideal S8x1x2048 .f32) (ix3 (seqOf t r) (0 : Fin 1) k) := by
  rw [← V_arg m c main_arg2 (by simp)]
  unfold iblk
  rw [View.read_apply]
  show V m c main_arg2 _ = V m c main_arg2 _
  generalize V m c main_arg2 = A
  exact congrArg A (tile_ix3 (win0_1.index t) (idx_1 t) (ix3 (0 : Fin 1) (0 : Fin 1) k) _ (fun _ => rfl) _ _ _
    (by rw [seqOf_val]; show _ = t.val / 8 * 1 + 0; omega) rfl (by show k.val = 0 * 2048 + k.val; omega))

theorem blk_2 (c : Dev nD) (t : Fin cfg0.N) (r : Fin 1024) (k : Fin 2048) :
    (iblk m c 2 t : Vec Ideal S1x1x2048 .f32) (ix3 (0 : Fin 1) (0 : Fin 1) k) = (m ((c : Thread nD τ).loc main_arg1) : Vec Ideal S8x1x2048 .f32) (ix3 (seqOf t r) (0 : Fin 1) k) := by
  rw [← V_arg m c main_arg1 (by simp)]
  unfold iblk
  rw [View.read_apply]
  show V m c main_arg1 _ = V m c main_arg1 _
  generalize V m c main_arg1 = A
  exact congrArg A (tile_ix3 (win0_2.index t) (idx_2 t) (ix3 (0 : Fin 1) (0 : Fin 1) k) _ (fun _ => rfl) _ _ _
    (by rw [seqOf_val]; show _ = t.val / 8 * 1 + 0; omega) rfl (by show k.val = 0 * 2048 + k.val; omega))

theorem blk_3 (c : Dev nD) (t : Fin cfg0.N) (k : Fin 2048) :
    (iblk m c 3 t : Vec Ideal S1x2048 .f32) (ix2 (0 : Fin 1) k) = (m ((c : Thread nD τ).loc main_arg3) : Vec Ideal S2048 .f32) (ix1 k) := by
  refine Eq.trans ?_ ((congrFun (V_g m c) (ix2 (0 : Fin 1) k)).trans (g_apply _ k))
  unfold iblk
  rw [View.read_apply]
  show V m c main_v4 _ = V m c main_v4 _
  generalize V m c main_v4 = A
  exact congrArg A (tile_ix (win0_3.index t) (idx_3 t) (ix2 (0 : Fin 1) k) _ (fun _ => rfl) _ _ rfl (by show k.val = 0 * 2048 + k.val; omega))

theorem blk_4 (c : Dev nD) (t : Fin cfg0.N) (k : Fin 2048) (l : Fin 512) :
    (iblk m c 4 t : Vec Ideal S2048x512 .bf16) (ix2 k l) = (m ((c : Thread nD τ).loc main_arg4) : Vec Ideal S2048x2048 .f32) (ix2 k (colOf t l)) := by
  refine Eq.trans ?_ (congrFun (V_w m c) (ix2 k (colOf t l)))
  unfold iblk
  rw [View.read_apply]
  show V m c main_v3 _ = V m c main_v3 _
  generalize V m c main_v3 = A
  exact congrArg A (tile_ix (win0_4.index t) (idx_4 t) (ix2 k l) _ (fun _ => rfl) _ _ (by show k.val = 0 * 2048 + k.val; omega) rfl)

theorem blk_5 (c : Dev nD) (t : Fin cfg0.N) (i : Fin 4) (l k : Fin 128) :
    (iblk m c 5 t : Vec Ideal S4x128x128 .bf16) (ix3 i l k) = (m ((c : Thread nD τ).loc main_arg5) : Vec Ideal S8x2x128x128 .f32)
      (ix4 (⟨(keyOf t i).val / 2, by omega⟩ : Fin 8) (⟨(keyOf t i).val % 2, by omega⟩ : Fin 2) l k) := by
  refine Eq.trans ?_ ((congrFun (V_keys m c) (ix3 (keyOf t i) l k)).trans (keys_apply _ (keyOf t i) l k))
  unfold iblk
  rw [View.read_apply]
  show V m c main_v1 _ = V m c main_v1 _
  generalize V m c main_v1 = A
  exact congrArg A (tile_ix3 (win0_5.index t) (idx_5 t) (ix3 i l k) _ (fun _ => rfl) _ _ _ rfl
    (by show l.val = 0 * 128 + l.val; omega) (by show k.val = 0 * 128 + k.val; omega))

theorem blk_6 (c : Dev nD) (t : Fin cfg0.N) (l k : Fin 128) :
    (iblk m c 6 t : Vec Ideal S128x128 .bf16) (ix2 l k) = if l = k then (1 : EReal) else 0 := by
  refine Eq.trans ?_ ((congrFun (V_eye m c) (ix2 l k)).trans (eye_apply l k))
  unfold iblk
  rw [View.read_apply]
  show V m c main_v10 _ = V m c main_v10 _
  generalize V m c main_v10 = A
  exact congrArg A (tile_ix (win0_6.index t) (idx_6 t) (ix2 l k) _ (fun _ => rfl) _ _ (by show l.val = 0 * 128 + l.val; omega) (by show k.val = 0 * 128 + k.val; omega))

/-! ## What every point leaves -/

/-- The rows of a row tile, from the arguments, and their transpose. -/
def rowTile (c : Dev nD) (t : Fin cfg0.N) : Vec Ideal S1024x2048 .bf16 := fun y =>
  rowHid (m ((c : Thread nD τ).loc main_arg0)) (m ((c : Thread nD τ).loc main_arg1)) (m ((c : Thread nD τ).loc main_arg2))
    (m ((c : Thread nD τ).loc main_arg3)) (rowOf t (y 0)) (y 1)
def colTile (c : Dev nD) (t : Fin cfg0.N) : Vec Ideal S2048x1024 .bf16 := fun y =>
  rowHid (m ((c : Thread nD τ).loc main_arg0)) (m ((c : Thread nD τ).loc main_arg1)) (m ((c : Thread nD τ).loc main_arg2))
    (m ((c : Thread nD τ).loc main_arg3)) (rowOf t (y 1)) (y 0)

theorem rowsAt_eq (c : Dev nD) (t : Fin cfg0.N) : rowsAt m c t = rowTile m c t := by
  refine funext fun (y : S1024x2048.Idx) => ?_
  idx_vars y
  exact hid_congr (fun k => blk_0 m c t y0 k) (fun k => blk_3 m c t k) (fun k => blk_1 m c t y0 k) (fun k => blk_2 m c t y0 k) y1

/-- A product with the identity matrix only transposes. -/
theorem transTile_one (h : Vec Ideal S1024x2048 .bf16) (e : Vec Ideal S128x128 .bf16)
    (he : ∀ l k : Fin 128, e (ix2 l k) = if l = k then (1 : EReal) else 0) : transTile h e = fun y => h (ix2 (y 1) (y 0)) := by
  refine funext fun (y : S2048x1024.Idx) => ?_
  idx_vars y
  have e1 : ∀ k : Fin 128, (e (ix2 (⟨y0.val % 128, Nat.mod_lt _ (by decide)⟩ : Fin 128) k) : EReal)
        * (h (ix2 y1 (⟨y0.val / 128 * 128 + k.val, by omega⟩ : Fin 2048)) : EReal)
      = if (⟨y0.val % 128, Nat.mod_lt _ (by decide)⟩ : Fin 128) = k then (h (ix2 y1 (⟨y0.val / 128 * 128 + k.val, by omega⟩ : Fin 2048)) : EReal) else 0 := fun k => by
    rw [he, ite_mul, one_mul, zero_mul]
  refine (Finset.sum_congr rfl fun k _ => e1 k).trans ((Finset.sum_ite_eq _ _ _).trans ((if_pos (Finset.mem_univ _)).trans ?_))
  refine congrArg (fun j => h (ix2 y1 j)) (Fin.ext ?_)
  show y0.val / 128 * 128 + y0.val % 128 = y0.val
  omega

theorem trans_eq (c : Dev nD) (t : Fin cfg0.N) : transTile (rowsAt m c t) (iblk m c 6 t) = colTile m c t := by
  rw [rowsAt_eq]
  exact transTile_one (rowTile m c t) (iblk m c 6 t) (blk_6 m c t)

/-- After every point: the scores of its tile, its row tile's rows transposed, and its row tile's rows. -/
theorem left_eq (c : Dev nD) : ∀ (n : Nat) (hn : n < cfg0.N),
    left m c n hn = (scoresAt m c ⟨n, hn⟩ (rowTile m c ⟨n, hn⟩), colTile m c ⟨n, hn⟩, rowTile m c ⟨n, hn⟩)
  | 0, hn => by
    refine (left_A m c ⟨0, hn⟩ (Nat.zero_mod _)).trans ?_
    rw [leftA_eq, trans_eq, rowsAt_eq]
  | n + 1, hn => by
    by_cases h : (n + 1) % 4 = 0
    · refine (left_A m c ⟨n + 1, hn⟩ h).trans ?_
      rw [leftA_eq, trans_eq, rowsAt_eq]
    · have hn' : n < cfg0.N := Nat.lt_of_succ_lt hn
      have er : ∀ r, rowOf ⟨n, hn'⟩ r = rowOf ⟨n + 1, hn⟩ r := fun r => Fin.ext (by
        show n / 4 * 1024 + r.val = (n + 1) / 4 * 1024 + r.val; omega)
      have e1 : rowTile m c ⟨n, hn'⟩ = rowTile m c ⟨n + 1, hn⟩ := by
        exact funext fun y => congrArg (fun r => rowHid _ _ _ _ r (y 1)) (er (y 0))
      have e2 : colTile m c ⟨n, hn'⟩ = colTile m c ⟨n + 1, hn⟩ := by
        exact funext fun y => congrArg (fun r => rowHid _ _ _ _ r (y 0)) (er (y 1))
      refine (left_B m c ⟨n + 1, hn⟩ h).trans ?_
      show (leftB m c ⟨n + 1, hn⟩ h (left m c n hn').2.2, (left m c n hn').2) = _
      rw [leftB_eq, left_eq c n hn', e1, e2]

/-! ## The whole results -/

/-- The results, from the arguments. -/
def scores (c : Dev nD) : Vec Ideal S2048x16384 .f32 := fun i =>
  score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)
def rows (c : Dev nD) : Vec Ideal S2048x16384 .bf16 := fun i =>
  rowHid (m ((c : Thread nD τ).loc main_arg0)) (m ((c : Thread nD τ).loc main_arg1)) (m ((c : Thread nD τ).loc main_arg2))
    (m ((c : Thread nD τ).loc main_arg3)) (i 1) (i 0)

theorem scoreTile_apply (h : Vec Ideal S1024x2048 .bf16) (w : Vec Ideal S2048x512 .bf16) (ks : Vec Ideal S4x128x128 .bf16)
    (K : Fin 4 → Fin 128 → Fin 128 → EReal) (W : Fin 2048 → Fin 512 → EReal)
    (hk : ∀ i l k, ks (ix3 i l k) = K i l k) (hw : ∀ k l, w (ix2 k l) = W k l) (l : Fin 512) (r : Fin 1024) :
    scoreTile h w ks (ix2 l r) = ∑ c : Fin 128, K (⟨l.val / 128, by omega⟩ : Fin 4) (⟨l.val % 128, Nat.mod_lt _ (by decide)⟩ : Fin 128) c
      * ∑ k : Fin 2048, h (ix2 r k) * W k (⟨l.val / 128 * 128 + c.val, by omega⟩ : Fin 512) := by
  refine Finset.sum_congr rfl fun c _ => ?_
  refine congrArg₂ (fun a b : EReal => a * b) (hk _ _ c) (Finset.sum_congr rfl fun k _ => ?_)
  exact congrArg (fun b : EReal => h (ix2 r k) * b) (hw k _)

theorem scoresAt_eq (c : Dev nD) (t : Fin cfg0.N) (l : Fin 512) (r : Fin 1024) :
    scoresAt m c t (rowTile m c t) (ix2 l r) = scores m c (ix2 (colOf t l) (rowOf t r)) := by
  refine (scoreTile_apply (rowTile m c t) (iblk m c 4 t) (iblk m c 5 t) _ _ (blk_5 m c t) (blk_4 m c t) l r).trans ?_
  show _ = score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (colOf t l) (rowOf t r)
  unfold score
  refine Finset.sum_congr rfl fun q _ => congrArg₂ (fun a b : EReal => a * b) ?_
    (Finset.sum_congr rfl fun k _ => congrArg (fun b : EReal => rowHid (m ((c : Thread nD τ).loc main_arg0)) (m ((c : Thread nD τ).loc main_arg1))
      (m ((c : Thread nD τ).loc main_arg2)) (m ((c : Thread nD τ).loc main_arg3)) (rowOf t r) k * b) ?_)
  · refine congrArg (m ((c : Thread nD τ).loc main_arg5) : Vec Ideal S8x2x128x128 .f32) (funext fun a => Fin.ext ?_)
    match a with
    | ⟨0, _⟩ => show (t.val % 4 * 4 + l.val / 128) / 2 = (t.val % 4 * 512 + l.val) / 256; omega
    | ⟨1, _⟩ => show (t.val % 4 * 4 + l.val / 128) % 2 = (t.val % 4 * 512 + l.val) / 128 % 2; omega
    | ⟨2, _⟩ => show l.val % 128 = (t.val % 4 * 512 + l.val) % 128; omega
    | ⟨3, _⟩ => rfl
  · refine congrArg (fun j => (m ((c : Thread nD τ).loc main_arg4) : Vec Ideal S2048x2048 .f32) (ix2 k j)) (Fin.ext ?_)
    show t.val % 4 * 512 + (l.val / 128 * 128 + q.val) = (t.val % 4 * 512 + l.val) / 128 * 128 + q.val
    omega

theorem flushed_7 (c : Dev nD) (t : Fin cfg0.N) (_ : (cfg0.win 7).flush t = true) :
    (dats m 0 c).flushed 7 t = ((cfg0.win 7).blk t).view.read (Elt Ideal) (scores m c) := by
  have e : (dats m 0 c).flushed 7 t = (cfg0.win 7).cut (grid0.coords t) (scoresAt m c t (rowTile m c t)) := by
    show (cfg0.win 7).cut (grid0.coords t) ((dats m 0 c).after 7 t) = _
    rw [after_7, left_eq m c t.val t.isLt]
  rw [e]
  funext j
  refine Eq.trans ?_ (View.read_apply ..).symm
  show scoresAt m c t (rowTile m c t) (j : S512x1024.Idx) = scores m c _
  refine Eq.trans ?_ (congrArg (scores m c) (tile_ix (win0_7.index t) (idx_7 t) (j : S512x1024.Idx) _ (fun _ => rfl)
    (colOf t ((j : S512x1024.Idx) 0)) (rowOf t ((j : S512x1024.Idx) 1)) rfl rfl)).symm
  generalize (j : S512x1024.Idx) = y
  idx_vars y
  exact scoresAt_eq m c t y0 y1

theorem flushed_8 (c : Dev nD) (t : Fin cfg0.N) (_ : (cfg0.win 8).flush t = true) :
    (dats m 0 c).flushed 8 t = ((cfg0.win 8).blk t).view.read (Elt Ideal) (rows m c) := by
  have e : (dats m 0 c).flushed 8 t = (cfg0.win 8).cut (grid0.coords t) (colTile m c t) := by
    show (cfg0.win 8).cut (grid0.coords t) ((dats m 0 c).after 8 t) = _
    rw [after_8, left_eq m c t.val t.isLt]
  rw [e]
  funext j
  refine Eq.trans ?_ (View.read_apply ..).symm
  show colTile m c t (j : S2048x1024.Idx) = rows m c _
  refine Eq.trans ?_ (congrArg (rows m c) (tile_ix (win0_8.index t) (idx_8 t) (j : S2048x1024.Idx) _ (fun _ => rfl)
    ((j : S2048x1024.Idx) 0) (rowOf t ((j : S2048x1024.Idx) 1)) (by omega) rfl)).symm
  rfl

theorem covered_7 (i : S2048x16384.Idx) : ∃ t : Fin cfg0.N, (cfg0.win 7).flush t = true ∧ i ∈ ((cfg0.win 7).blk t).view.set := by
  have h0 : (i 0).val < 2048 := (i 0).isLt
  have h1 : (i 1).val < 16384 := (i 1).isLt
  let t : Fin cfg0.N := ⟨4 * ((i 1).val / 1024) + (i 0).val / 512, show 4 * ((i 1).val / 1024) + (i 0).val / 512 < 64 by omega⟩
  have e0 : t.val / 4 = (i 1).val / 1024 := by show (4 * ((i 1).val / 1024) + (i 0).val / 512) / 4 = _; omega
  have e1 : t.val % 4 = (i 0).val / 512 := by show (4 * ((i 1).val / 1024) + (i 0).val / 512) % 4 = _; omega
  refine ⟨t, flush0_7 _, ?_⟩
  refine ((Finset.ext_iff.mp (View.set_slice_whole _ _)) i).mpr (Rect.mem_set_unit.mpr ?_)
  exact mem_tile (b0 := 512) (b1 := 1024) (win0_7.index t) (idx_7 t) i (by rw [e1]; omega) (by rw [e0]; omega)

theorem covered_8 (i : S2048x16384.Idx) : ∃ t : Fin cfg0.N, (cfg0.win 8).flush t = true ∧ i ∈ ((cfg0.win 8).blk t).view.set := by
  have h0 : (i 0).val < 2048 := (i 0).isLt
  have h1 : (i 1).val < 16384 := (i 1).isLt
  let t : Fin cfg0.N := ⟨4 * ((i 1).val / 1024) + 3, show 4 * ((i 1).val / 1024) + 3 < 64 by omega⟩
  have e0 : t.val / 4 = (i 1).val / 1024 := by show (4 * ((i 1).val / 1024) + 3) / 4 = _; omega
  refine ⟨t, (flush0_8 t).mpr (by show (4 * ((i 1).val / 1024) + 3) % 4 = 3; omega), ?_⟩
  refine ((Finset.ext_iff.mp (View.set_slice_whole _ _)) i).mpr (Rect.mem_set_unit.mpr ?_)
  exact mem_tile (b0 := 2048) (b1 := 1024) (win0_8.index t) (idx_8 t) i (by omega) (by rw [e0]; omega)

theorem scores_eq (c : Dev nD) : (dats m 0 c).arrAt 7 cfg0.N = scores m c :=
  (dats m 0 c).arrAt_eq_of_cover 7 (scores m c) (flushed_7 m c) covered_7

theorem rows_eq (c : Dev nD) : (dats m 0 c).arrAt 8 cfg0.N = rows m c :=
  (dats m 0 c).arrAt_eq_of_cover 8 (rows m c) (flushed_8 m c) covered_8

end Cert.Kernel5Ideal.Peer

end
-- ==== Proof.PeerRef.lean ====
/-
  The reference of PEER's query call read at an index: its scores are `Peer.score`, its rows `Proj.rowHid`.
-/
module

public import proofs.«01_k».proof.Proof.Gen.Reference5Ideal.Read
public import proofs.«01_k».proof.Proof.PeerSpec
public import proofs.«01_k».proof.Proof.Tiles

@[expose] public section

set_option maxRecDepth 16384

noncomputable section

namespace Cert.Reference5Ideal.Val

open Cert.Reference5Ideal Cert.Reference5Ideal.Gen Cert.Reference5Ideal.Read Idealize.ShloMosaic Idealize.ShloMosaic.TcCoe
open Cert.Proj Cert.Peer Cert.Tiles

variable (x0 : Vec Ideal S8x2048x2048 .f32) (x1 x2 : Vec Ideal S8x1x2048 .f32) (x3 : Vec Ideal S2048 .f32)
  (x4 : Vec Ideal S2048x2048 .f32) (x5 : Vec Ideal S8x2x128x128 .f32)

theorem hid_apply (b : Fin 8) (p k : Fin 2048) : val_main_v18 (F := Ideal) x0 x1 x2 x3 (ix3 b p k)
    = hid (fun k => x0 (ix3 b p k)) (fun k => x3 (ix1 k)) (fun k => x2 (ix3 b (0 : Fin 1) k)) (fun k => x1 (ix3 b (0 : Fin 1) k)) k := by
  unfold val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0
    val_main_cst val_main_cst_0 val_main_cst_1 val_main_cst_2
  pointwise [hid]

theorem row_apply (r : Fin 16384) (k : Fin 2048) : val_main_v19 (F := Ideal) x0 x1 x2 x3 (ix2 r k) = rowHid x0 x1 x2 x3 r k := by
  unfold val_main_v19
  pointwise [hid_apply, rowHid]

theorem query_apply (r : Fin 16384) (c : Fin 2048) : val_main_v20 (F := Ideal) x0 x1 x2 x3 x4 (ix2 r c)
    = ∑ k : Fin 2048, rowHid x0 x1 x2 x3 r k * x4 (ix2 k c) := by
  unfold val_main_v20
  pointwise [row_apply]

theorem split_apply (r : Fin 16384) (h : Fin 8) (s : Fin 2) (c : Fin 128) : val_main_v21 (F := Ideal) x0 x1 x2 x3 x4 (ix4 r h s c)
    = ∑ k : Fin 2048, rowHid x0 x1 x2 x3 r k * x4 (ix2 k (⟨h.val * 256 + s.val * 128 + c.val, by omega⟩ : Fin 2048)) := by
  refine (val_main_v21_apply (F := Ideal) x0 x1 x2 x3 x4 (ix4 r h s c)).trans (Eq.trans ?_ (query_apply x0 x1 x2 x3 x4 r _))
  refine congrArg (val_main_v20 (F := Ideal) x0 x1 x2 x3 x4) (funext fun a => Fin.ext ?_)
  match a with
  | ⟨0, _⟩ => simp; omega
  | ⟨1, _⟩ => simp; omega

theorem against_apply (h : Fin 8) (s : Fin 2) (l : Fin 128) (r : Fin 16384) :
    val_main_v22 (F := Ideal) x0 x1 x2 x3 x4 x5 (ix4 h s l r) = ∑ c : Fin 128, x5 (ix4 h s l c)
      * ∑ k : Fin 2048, rowHid x0 x1 x2 x3 r k * x4 (ix2 k (⟨h.val * 256 + s.val * 128 + c.val, by omega⟩ : Fin 2048)) := by
  refine (val_main_v22_apply x0 x1 x2 x3 x4 x5 (ix4 h s l r)).trans (Finset.sum_congr rfl fun c _ => ?_)
  refine congrArg₂ (fun a b : EReal => a * b) (congrArg x5 (funext fun a => ?_)) ?_
  · match a with
    | ⟨0, _⟩ => rfl
    | ⟨1, _⟩ => rfl
    | ⟨2, _⟩ => rfl
    | ⟨3, _⟩ => rfl
  · refine Eq.trans (congrArg (val_main_v21 (F := Ideal) x0 x1 x2 x3 x4) (funext fun a => ?_)) (split_apply x0 x1 x2 x3 x4 r h s c)
    match a with
    | ⟨0, _⟩ => rfl
    | ⟨1, _⟩ => rfl
    | ⟨2, _⟩ => rfl
    | ⟨3, _⟩ => rfl

/-- The reference's scores. -/
theorem scores_apply (e : Fin 2048) (r : Fin 16384) : val_main_v25 (F := Ideal) x0 x1 x2 x3 x4 x5 (ix2 e r) = score x0 x1 x2 x3 x4 x5 e r := by
  refine (val_main_v25_apply (F := Ideal) x0 x1 x2 x3 x4 x5 (ix2 e r)).trans ?_
  refine (val_main_v24_apply (F := Ideal) x0 x1 x2 x3 x4 x5 _).trans ?_
  refine (val_main_v23_apply (F := Ideal) x0 x1 x2 x3 x4 x5 _).trans ?_
  refine Eq.trans (congrArg (val_main_v22 (F := Ideal) x0 x1 x2 x3 x4 x5) (funext fun a => Fin.ext ?_))
    ((against_apply x0 x1 x2 x3 x4 x5 (⟨e.val / 256, by omega⟩ : Fin 8) (⟨e.val / 128 % 2, by omega⟩ : Fin 2) (⟨e.val % 128, by omega⟩ : Fin 128) r).trans ?_)
  · match a with
    | ⟨0, _⟩ => simp; omega
    | ⟨1, _⟩ => simp; omega
    | ⟨2, _⟩ => simp; omega
    | ⟨3, _⟩ => simp; omega
  · unfold score
    refine Finset.sum_congr rfl fun c _ => congrArg (fun z : EReal => x5 _ * z) (Finset.sum_congr rfl fun k _ =>
      congrArg (fun z : EReal => rowHid x0 x1 x2 x3 r k * z) (congrArg (fun j => x4 (ix2 k j)) (Fin.ext ?_)))
    show e.val / 256 * 256 + e.val / 128 % 2 * 128 + c.val = e.val / 128 * 128 + c.val
    omega

/-- The reference's rows. -/
theorem rows_apply (e : Fin 2048) (r : Fin 16384) : val_main_v27 (F := Ideal) x0 x1 x2 x3 (ix2 e r) = rowHid x0 x1 x2 x3 r e := by
  unfold val_main_v27 val_main_v26
  pointwise [row_apply]

end Cert.Reference5Ideal.Val

end
-- ==== Proof.PeerClaim.lean ====
/-
  The claims about PEER's query call.
-/
module

public import proofs.«01_k».proof.Defs
public import proofs.«01_k».proof.Proof.Gen.Reference5Ideal.Run
public import proofs.«01_k».proof.Proof.Gen.Kernel5.Frame
public import proofs.«01_k».proof.Proof.PeerRun
public import proofs.«01_k».proof.Proof.PeerRef
public import Idealize.ShloMosaic.Adequacy

@[expose] public section

set_option maxRecDepth 16384

noncomputable section

namespace Cert.Peer

open Idealize.ShloMosaic Idealize.ShloMosaic.TcCoe Idealize.SL.Sem Cert.Tiles

/-- The kernel's program and its idealized program have the same body over machine numbers, for no rule rewrites one. -/
theorem body_eq : Cert.Kernel5.defs₀ (F := Bits) = Cert.Kernel5Ideal.defs₀ (F := Bits) := by
  refine congrArg Defs.onTc (funext fun l => funext fun a => ?_)
  match l, a with
  | 0, (t, s) => exact rfl
  | ⟨_ + 1, h⟩, _ => exact absurd h (Nat.not_lt.2 (Nat.le_add_left _ _))

theorem defs_eq : Cert.Kernel5.defs (F := Bits) = Cert.Kernel5Ideal.defs (F := Bits) :=
  congrArg (Pipeline.defs (Cert.Kernel5.pcfgs (F := Bits))) body_eq

theorem frame_kernel : Cert.quiescent_Kernel5 := by
  intro m ρ _
  rw [defs_eq]
  exact Cert.Kernel5Ideal.Peer.run_frame (F := Bits) m ρ

theorem frame_ideal : Cert.quiescent_Kernel5Ideal := fun m ρ _ => Cert.Kernel5Ideal.Peer.run_frame m ρ

theorem frame_reference : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- The kernel's scores and rows are the reference's. -/
theorem algebraic : Cert.algebraic_Kernel5Ideal_Reference5Ideal := by
  intro m g m' g' _ hag
  refine ⟨fun c => Cert.Kernel5Ideal.Peer.scores m c, fun c => Cert.Kernel5Ideal.Peer.rows m c, ?_, ?_⟩
  · exact (θ_run Cert.Kernel5Ideal.defs _ _).mono (fun _ h c => ⟨(h c).1.1.trans (Cert.Kernel5Ideal.Peer.scores_eq m c),
      (h c).1.2.trans (Cert.Kernel5Ideal.Peer.rows_eq m c), (h c).2⟩) (Cert.Kernel5Ideal.Peer.run_results m g)
  · refine (θ_run Cert.Reference5Ideal.defs _ _).mono (fun _ h c => ⟨(h c).1.trans ?_, (h c).2.1.trans ?_, (h c).2.2⟩)
      (Cert.Reference5Ideal.Value.run (F := Ideal) m' g')
    · rw [Cert.Reference5Ideal.Read.val_main_v25_eq]
      change Cert.Reference5Ideal.Read.val_main_v25 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = _
      obtain ⟨e0, e1, e2, e3, e4, e5⟩ := hag c
      rw [e0, e1, e2, e3, e4, e5]
      refine funext fun (y : (⟨2, ![2048, 16384]⟩ : Shape).Idx) => ?_
      idx_vars y
      exact Cert.Reference5Ideal.Val.scores_apply _ _ _ _ _ _ y0 y1
    · rw [Cert.Reference5Ideal.Read.val_main_v27_eq]
      change Cert.Reference5Ideal.Read.val_main_v27 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3)) = _
      obtain ⟨e0, e1, e2, e3, e4, e5⟩ := hag c
      rw [e0, e1, e2, e3]
      refine funext fun (y : (⟨2, ![2048, 16384]⟩ : Shape).Idx) => ?_
      idx_vars y
      exact Cert.Reference5Ideal.Val.rows_apply _ _ _ _ y0 y1

end Cert.Peer

end
-- ==== Proof.AddPeer.lean ====
/-
  PEER's output added to the residual stream: each point transposes a block of the output's columns, gates it and adds it to a
  block of rows; the blocks cover the result, which is the reference's.
-/
module

public import proofs.«01_k».proof.Proof.Gen.Kernel6Ideal.Value
public import proofs.«01_k».proof.Proof.Gen.Kernel6.Frame
public import proofs.«01_k».proof.Proof.Gen.Reference6Ideal.Read
public import proofs.«01_k».proof.Proof.Tiles
public import proofs.«01_k».proof.Defs

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Cert.Tiles

/-- The residual stream at row `r` and column `l`, with PEER's gated output, which is held column by column. -/
def added (x : Vec Ideal S16384x2048 .f32) (o : Vec Ideal S2048x16384 .f32) (g : Vec Ideal S8x1x2048 .f32) (r : Fin 16384) (l : Fin 2048) : EReal :=
  x (ix2 r l) + g (ix3 (⟨r.val / 2048, by omega⟩ : Fin 8) (0 : Fin 1) l) * o (ix2 l r)

/-! ## One block -/

theorem pay1_apply (x : Vec Ideal S256x2048 .f32) (g : Vec Ideal S1x1x2048 .f32) (o : Vec Ideal S2048x256 .f32) (r : Fin 256) (l : Fin 2048) :
    k0_pay1 x g o (ix2 r l) = x (ix2 r l) + g (ix3 (0 : Fin 1) (0 : Fin 1) l) * o (ix2 l r) := by
  pointwise [k0_pay1]

theorem out_eq (o : Vec Ideal S2048x256 .f32) (x : Vec Ideal S256x2048 .f32) (g : Vec Ideal S1x1x2048 .f32) :
    out0_3 o x g = k0_pay1 x g o := by
  have hz : (![0, 0] : Fin 2 → Nat) = fun _ => 0 := by decide
  have hz3 : (![0, 0, 0] : Fin 3 → Nat) = fun _ => 0 := by decide
  unfold out0_3
  rw [View.ld_unit_zero (S := S2048x256) hz, View.ld_unit_zero (S := S256x2048) hz, View.ld_unit_zero (S := S1x1x2048) hz3]
  exact View.canon_cons_unit_zero (S := S256x2048) hz _ _ _

/-! ## The blocks' places -/

theorem idx_0 : ∀ t : Fin cfg0.N, win0_0.index t = ![0, t.val] := (by decide +kernel : ∀ t : Fin grid0.N, win0_0.index t = ![0, t.val])
theorem idx_1 : ∀ t : Fin cfg0.N, win0_1.index t = ![t.val, 0] := (by decide +kernel : ∀ t : Fin grid0.N, win0_1.index t = ![t.val, 0])
theorem idx_2 : ∀ t : Fin cfg0.N, win0_2.index t = ![t.val / 8, 0, 0] := (by decide +kernel : ∀ t : Fin grid0.N, win0_2.index t = ![t.val / 8, 0, 0])
theorem idx_3 : ∀ t : Fin cfg0.N, win0_3.index t = ![t.val, 0] := (by decide +kernel : ∀ t : Fin grid0.N, win0_3.index t = ![t.val, 0])

/-- The row of the result that row `r` of point `t`'s block is. -/
def rowOf (t : Fin cfg0.N) (r : Fin 256) : Fin 16384 := ⟨t.val * 256 + r.val, by have h : t.val < 64 := t.isLt; omega⟩

variable (m : (ℓ : Loc nD τ sig) → Buf (Elt Ideal) ℓ)

theorem blk_0 (c : Dev nD) (t : Fin cfg0.N) (l : Fin 2048) (r : Fin 256) :
    (iblk m c 0 t : Vec Ideal S2048x256 .f32) (ix2 l r) = (m ((c : Thread nD τ).loc main_arg1) : Vec Ideal S2048x16384 .f32) (ix2 l (rowOf t r)) := by
  rw [← V_main_arg1 m c]
  unfold iblk
  rw [View.read_apply]
  show V m c main_arg1 _ = V m c main_arg1 _
  generalize V m c main_arg1 = A
  exact congrArg A (tile_ix (win0_0.index t) (idx_0 t) (ix2 l r) _ (fun _ => rfl) _ _ (by show l.val = 0 * 2048 + l.val; omega) rfl)

theorem blk_1 (c : Dev nD) (t : Fin cfg0.N) (r : Fin 256) (l : Fin 2048) :
    (iblk m c 1 t : Vec Ideal S256x2048 .f32) (ix2 r l) = (m ((c : Thread nD τ).loc main_arg0) : Vec Ideal S16384x2048 .f32) (ix2 (rowOf t r) l) := by
  rw [← V_main_arg0 m c]
  unfold iblk
  rw [View.read_apply]
  show V m c main_arg0 _ = V m c main_arg0 _
  generalize V m c main_arg0 = A
  exact congrArg A (tile_ix (win0_1.index t) (idx_1 t) (ix2 r l) _ (fun _ => rfl) _ _ rfl (by show l.val = 0 * 2048 + l.val; omega))

theorem blk_2 (c : Dev nD) (t : Fin cfg0.N) (r : Fin 256) (l : Fin 2048) :
    (iblk m c 2 t : Vec Ideal S1x1x2048 .f32) (ix3 (0 : Fin 1) (0 : Fin 1) l) = (m ((c : Thread nD τ).loc main_arg2) : Vec Ideal S8x1x2048 .f32)
      (ix3 (⟨(rowOf t r).val / 2048, by omega⟩ : Fin 8) (0 : Fin 1) l) := by
  rw [← V_main_arg2 m c]
  unfold iblk
  rw [View.read_apply]
  show V m c main_arg2 _ = V m c main_arg2 _
  generalize V m c main_arg2 = A
  refine congrArg A (tile_ix3 (win0_2.index t) (idx_2 t) (ix3 (0 : Fin 1) (0 : Fin 1) l) _ (fun _ => rfl) _ _ _ ?_ rfl
    (by show l.val = 0 * 2048 + l.val; omega))
  show (t.val * 256 + r.val) / 2048 = t.val / 8 * 1 + 0
  omega

/-! ## The whole result -/

/-- The result, from the arguments. -/
def result (c : Dev nD) : Vec Ideal S16384x2048 .f32 := fun i =>
  added (m ((c : Thread nD τ).loc main_arg0)) (m ((c : Thread nD τ).loc main_arg1)) (m ((c : Thread nD τ).loc main_arg2)) (i 0) (i 1)

theorem flushed_eq (c : Dev nD) (t : Fin cfg0.N) (_ : (cfg0.win 3).flush t = true) :
    (dats m 0 c).flushed 3 t = ((cfg0.win 3).blk t).view.read (Elt Ideal) (result m c) := by
  rw [Value.flushed3]
  funext j
  refine Eq.trans ?_ (View.read_apply ..).symm
  show out0_3 (iblk m c 0 t) (iblk m c 1 t) (iblk m c 2 t) (j : S256x2048.Idx) = result m c _
  refine Eq.trans ?_ (congrArg (result m c) (tile_ix (win0_3.index t) (idx_3 t) (j : S256x2048.Idx) _ (fun _ => rfl)
    (rowOf t ((j : S256x2048.Idx) 0)) ((j : S256x2048.Idx) 1) rfl
    (by show ((j : S256x2048.Idx) 1).val = 0 * 2048 + ((j : S256x2048.Idx) 1).val; omega))).symm
  generalize (j : S256x2048.Idx) = y
  idx_vars y
  rw [out_eq, pay1_apply, blk_0, blk_1, blk_2 m c t y0]
  rfl

theorem covered (i : S16384x2048.Idx) : ∃ t : Fin cfg0.N, (cfg0.win 3).flush t = true ∧ i ∈ ((cfg0.win 3).blk t).view.set := by
  have h0 : (i 0).val < 16384 := (i 0).isLt
  have h1 : (i 1).val < 2048 := (i 1).isLt
  let t : Fin cfg0.N := ⟨(i 0).val / 256, show (i 0).val / 256 < 64 by omega⟩
  have e0 : t.val = (i 0).val / 256 := rfl
  refine ⟨t, flush0_3 _, ?_⟩
  refine ((Finset.ext_iff.mp (View.set_slice_whole _ _)) i).mpr (Rect.mem_set_unit.mpr ?_)
  exact mem_tile (b0 := 256) (b1 := 2048) (win0_3.index t) (idx_3 t) i (by rw [e0]; omega) (by omega)

theorem final_eq (c : Dev nD) : (dats m 0 c).arrAt 3 cfg0.N = result m c :=
  (dats m 0 c).arrAt_eq_of_cover 3 (result m c) (flushed_eq m c) covered

/-! ## The reference, and the claims -/

open Cert.Reference6Ideal.Read in
theorem reference_apply (x o g) (r : Fin 16384) (l : Fin 2048) : val_main_v6 (F := Ideal) x o g (ix2 r l) = added x o g r l := by
  unfold val_main_v6 val_main_v5 val_main_v4 val_main_v3 val_main_v2 val_main_v1 val_main_v0
  pointwise []
  rfl

end Cert.Kernel6Ideal.Val

namespace Cert.AddPeer

open Idealize.ShloMosaic Idealize.ShloMosaic.TcCoe Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The kernel's sum is the reference's. -/
theorem algebraic : Cert.algebraic_Kernel6Ideal_Reference6Ideal := by
  intro m g m' g' _ hag
  refine ⟨fun c => Cert.Kernel6Ideal.Val.result m c, ?_, ?_⟩
  · refine (θ_run Cert.Kernel6Ideal.defs _ _).mono (fun _ h c => ⟨(h c).1.trans (Cert.Kernel6Ideal.Val.final_eq m c), (h c).2⟩)
      (Cert.Kernel6Ideal.Value.run_blocks (F := Ideal) m g)
  · refine (θ_run Cert.Reference6Ideal.defs _ _).mono (fun _ h c => ⟨(h c).1.trans ?_, (h c).2⟩)
      (Cert.Reference6Ideal.Value.run (F := Ideal) m' g')
    rw [Cert.Reference6Ideal.Read.val_main_v6_eq]
    obtain ⟨e0, e1, e2⟩ := hag c
    rw [e0, e1, e2]
    refine funext fun (y : (⟨2, ![16384, 2048]⟩ : Shape).Idx) => ?_
    idx_vars y
    exact Cert.Kernel6Ideal.Val.reference_apply _ _ _ y0 y1

end Cert.AddPeer

end
-- ==== Proof.Modulation.lean ====
/-
  The modulation: the conditioning vectors of both groups, one below the other, under a silu, times the weight, plus the bias.
  Each point computes the columns of one block; the blocks cover the result, which is the reference's.
-/
module

public import proofs.«01_k».proof.Proof.Gen.Kernel7Ideal.Value
public import proofs.«01_k».proof.Proof.Gen.Kernel7.Frame
public import proofs.«01_k».proof.Proof.Gen.Reference7Ideal.Read
public import proofs.«01_k».proof.Proof.Tiles
public import proofs.«01_k».proof.Defs

@[expose] public section

set_option maxRecDepth 16384

noncomputable section

namespace Cert.Kernel7Ideal.Val

open Cert.Kernel7Ideal Cert.Kernel7Ideal.Gen Idealize.ShloMosaic Idealize.ShloMosaic.TcCoe Idealize.SL.Sem
open Cert.Tiles

/-- Row `r` of the two groups' vectors, the prompt's eight first. -/
def both (p : Vec Ideal S8x2048 .f32) (s : Vec Ideal S128x2048 .f32) (r : Fin 136) (k : Fin 2048) : EReal :=
  if h : r.val < 8 then p (ix2 (⟨r.val, h⟩ : Fin 8) k) else s (ix2 (⟨r.val - 8, by omega⟩ : Fin 128) k)

/-- The modulation at row `r` and column `l`. -/
def modulated (p : Vec Ideal S8x2048 .f32) (s : Vec Ideal S128x2048 .f32) (w : Vec Ideal S2048x12288 .f32) (b : Vec Ideal S12288 .f32)
    (r : Fin 136) (l : Fin 12288) : EReal :=
  (∑ k : Fin 2048, (both p s r k * Ideal.logistic (both p s r k)) * w (ix2 k l)) + b (ix1 l)

/-! ## One block -/

theorem pay1_apply (a : Vec Ideal S136x2048 .f32) (w : Vec Ideal S2048x1024 .f32) (b : Vec Ideal S1x1024 .f32) (r : Fin 136) (l : Fin 1024) :
    k0_pay1 a w b (ix2 r l) = (∑ k : Fin 2048, (a (ix2 r k) * Ideal.logistic (a (ix2 r k))) * w (ix2 k l)) + b (ix2 (0 : Fin 1) l) := by
  pointwise [k0_pay1]

theorem out_eq (a : Vec Ideal S136x2048 .f32) (w : Vec Ideal S2048x1024 .f32) (b : Vec Ideal S1x1024 .f32) :
    out0_3 a w b = k0_pay1 a w b := by
  have hz : (![0, 0] : Fin 2 → Nat) = fun _ => 0 := by decide
  unfold out0_3
  rw [View.ld_unit_zero (S := S136x2048) hz, View.ld_unit_zero (S := S2048x1024) hz, View.ld_unit_zero (S := S1x1024) hz]
  exact View.canon_cons_unit_zero (S := S136x1024) hz _ _ _

/-! ## The blocks' places -/

theorem idx_0 : ∀ t : Fin cfg0.N, win0_0.index t = ![0, 0] := (by decide +kernel : ∀ t : Fin grid0.N, win0_0.index t = ![0, 0])
theorem idx_1 : ∀ t : Fin cfg0.N, win0_1.index t = ![0, t.val] := (by decide +kernel : ∀ t : Fin grid0.N, win0_1.index t = ![0, t.val])
theorem idx_2 : ∀ t : Fin cfg0.N, win0_2.index t = ![0, t.val] := (by decide +kernel : ∀ t : Fin grid0.N, win0_2.index t = ![0, t.val])
theorem idx_3 : ∀ t : Fin cfg0.N, win0_3.index t = ![0, t.val] := (by decide +kernel : ∀ t : Fin grid0.N, win0_3.index t = ![0, t.val])

/-- The column of the result that column `l` of point `t`'s block is. -/
def colOf (t : Fin cfg0.N) (l : Fin 1024) : Fin 12288 := ⟨t.val * 1024 + l.val, by have h : t.val < 12 := t.isLt; omega⟩

variable (m : (ℓ : Loc nD τ sig) → Buf (Elt Ideal) ℓ)

theorem V_c (c : Dev nD) : (V m c main_v0 : Vec Ideal S136x2048 .f32)
    = concatenate S136x2048 0 [⟨S8x2048, (m ((c : Thread nD τ).loc main_arg0) : Vec Ideal S8x2048 .f32)⟩,
        ⟨S128x2048, (m ((c : Thread nD τ).loc main_arg1) : Vec Ideal S128x2048 .f32)⟩] concatenates_S8x2048_S128x2048_S136x2048_d0 := by
  unfold_abbrev_sides
  after_results <;> rfl

theorem V_b (c : Dev nD) : (V m c main_v1 : Vec Ideal S1x12288 .f32)
    = shapeCast _ (m ((c : Thread nD τ).loc main_arg3)) shapeCasts_S12288_S1x12288 := by
  unfold_abbrev_sides
  after_results <;> rfl

theorem c_apply (p : Vec Ideal S8x2048 .f32) (s : Vec Ideal S128x2048 .f32) (r : Fin 136) (k : Fin 2048) :
    (concatenate S136x2048 0 [⟨S8x2048, p⟩, ⟨S128x2048, s⟩] concatenates_S8x2048_S128x2048_S136x2048_d0 : Vec Ideal S136x2048 .f32) (ix2 r k)
      = both p s r k := by
  pointwise [both]

theorem b_apply (b : Vec Ideal S12288 .f32) (l : Fin 12288) :
    (shapeCast S1x12288 b shapeCasts_S12288_S1x12288 : Vec Ideal S1x12288 .f32) (ix2 (0 : Fin 1) l) = b (ix1 l) := by
  pointwise []

theorem blk_0 (c : Dev nD) (t : Fin cfg0.N) (r : Fin 136) (k : Fin 2048) : (iblk m c 0 t : Vec Ideal S136x2048 .f32) (ix2 r k)
    = both (m ((c : Thread nD τ).loc main_arg0)) (m ((c : Thread nD τ).loc main_arg1)) r k := by
  refine Eq.trans ?_ ((congrFun (V_c m c) (ix2 r k)).trans (c_apply _ _ r k))
  unfold iblk
  rw [View.read_apply]
  show V m c main_v0 _ = V m c main_v0 _
  generalize V m c main_v0 = A
  exact congrArg A (tile_ix (win0_0.index t) (idx_0 t) (ix2 r k) _ (fun _ => rfl) _ _ (by show r.val = 0 * 136 + r.val; omega)
    (by show k.val = 0 * 2048 + k.val; omega))

theorem blk_1 (c : Dev nD) (t : Fin cfg0.N) (k : Fin 2048) (l : Fin 1024) :
    (iblk m c 1 t : Vec Ideal S2048x1024 .f32) (ix2 k l) = (m ((c : Thread nD τ).loc main_arg2) : Vec Ideal S2048x12288 .f32) (ix2 k (colOf t l)) := by
  rw [← V_main_arg2 m c]
  unfold iblk
  rw [View.read_apply]
  show V m c main_arg2 _ = V m c main_arg2 _
  generalize V m c main_arg2 = A
  exact congrArg A (tile_ix (win0_1.index t) (idx_1 t) (ix2 k l) _ (fun _ => rfl) _ _ (by show k.val = 0 * 2048 + k.val; omega) rfl)

theorem blk_2 (c : Dev nD) (t : Fin cfg0.N) (l : Fin 1024) :
    (iblk m c 2 t : Vec Ideal S1x1024 .f32) (ix2 (0 : Fin 1) l) = (m ((c : Thread nD τ).loc main_arg3) : Vec Ideal S12288 .f32) (ix1 (colOf t l)) := by
  refine Eq.trans ?_ ((congrFun (V_b m c) (ix2 (0 : Fin 1) (colOf t l))).trans (b_apply _ _))
  unfold iblk
  rw [View.read_apply]
  show V m c main_v1 _ = V m c main_v1 _
  generalize V m c main_v1 = A
  exact congrArg A (tile_ix (win0_2.index t) (idx_2 t) (ix2 (0 : Fin 1) l) _ (fun _ => rfl) _ _ rfl rfl)

/-! ## The whole result -/

/-- The result, from the arguments. -/
def result (c : Dev nD) : Vec Ideal S136x12288 .f32 := fun i =>
  modulated (m ((c : Thread nD τ).loc main_arg0)) (m ((c : Thread nD τ).loc main_arg1)) (m ((c : Thread nD τ).loc main_arg2))
    (m ((c : Thread nD τ).loc main_arg3)) (i 0) (i 1)

theorem flushed_eq (c : Dev nD) (t : Fin cfg0.N) (_ : (cfg0.win 3).flush t = true) :
    (dats m 0 c).flushed 3 t = ((cfg0.win 3).blk t).view.read (Elt Ideal) (result m c) := by
  rw [Value.flushed3]
  funext j
  refine Eq.trans ?_ (View.read_apply ..).symm
  show out0_3 (iblk m c 0 t) (iblk m c 1 t) (iblk m c 2 t) (j : S136x1024.Idx) = result m c _
  refine Eq.trans ?_ (congrArg (result m c) (tile_ix (win0_3.index t) (idx_3 t) (j : S136x1024.Idx) _ (fun _ => rfl)
    ((j : S136x1024.Idx) 0) (colOf t ((j : S136x1024.Idx) 1))
    (by show ((j : S136x1024.Idx) 0).val = 0 * 136 + ((j : S136x1024.Idx) 0).val; omega) rfl)).symm
  generalize (j : S136x1024.Idx) = y
  idx_vars y
  rw [out_eq, pay1_apply, blk_2]
  simp only [blk_0, blk_1]
  rfl

theorem covered (i : S136x12288.Idx) : ∃ t : Fin cfg0.N, (cfg0.win 3).flush t = true ∧ i ∈ ((cfg0.win 3).blk t).view.set := by
  have h0 : (i 0).val < 136 := (i 0).isLt
  have h1 : (i 1).val < 12288 := (i 1).isLt
  let t : Fin cfg0.N := ⟨(i 1).val / 1024, show (i 1).val / 1024 < 12 by omega⟩
  have e1 : t.val = (i 1).val / 1024 := rfl
  refine ⟨t, flush0_3 _, ?_⟩
  refine ((Finset.ext_iff.mp (View.set_slice_whole _ _)) i).mpr (Rect.mem_set_unit.mpr ?_)
  exact mem_tile (b0 := 136) (b1 := 1024) (win0_3.index t) (idx_3 t) i (by omega) (by rw [e1]; omega)

theorem final_eq (c : Dev nD) : (dats m 0 c).arrAt 3 cfg0.N = result m c :=
  (dats m 0 c).arrAt_eq_of_cover 3 (result m c) (flushed_eq m c) covered

/-! ## The reference, and the claims -/

open Cert.Reference7Ideal.Read in
theorem reference_apply (p s w b) (r : Fin 136) (l : Fin 12288) : val_main_v22 (F := Ideal) p s w b (ix2 r l) = modulated p s w b r l := by
  unfold val_main_v22 val_main_v21 val_main_v20 val_main_v19 val_main_v18 val_main_v17 val_main_v16 val_main_v15 val_main_cst_2 val_main_v14 val_main_v13 val_main_cst_1 val_main_v12 val_main_v11 val_main_v10 val_main_v9 val_main_v8 val_main_v7 val_main_v6 val_main_v5 val_main_v4 val_main_cst_0 val_main_v3 val_main_v2 val_main_cst val_main_v1 val_main_v0
  pointwise []
  unfold modulated both
  split_ifs <;> rfl

end Cert.Kernel7Ideal.Val

namespace Cert.Modulation

open Idealize.ShloMosaic Idealize.ShloMosaic.TcCoe Idealize.SL.Sem

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The kernel's modulation is the reference's. -/
theorem algebraic : Cert.algebraic_Kernel7Ideal_Reference7Ideal := by
  intro m g m' g' _ hag
  refine ⟨fun c => Cert.Kernel7Ideal.Val.result m c, ?_, ?_⟩
  · refine (θ_run Cert.Kernel7Ideal.defs _ _).mono (fun _ h c => ⟨(h c).1.trans (Cert.Kernel7Ideal.Val.final_eq m c), (h c).2⟩)
      (Cert.Kernel7Ideal.Value.run_blocks (F := Ideal) m g)
  · refine (θ_run Cert.Reference7Ideal.defs _ _).mono (fun _ h c => ⟨(h c).1.trans ?_, (h c).2⟩)
      (Cert.Reference7Ideal.Value.run (F := Ideal) m' g')
    rw [Cert.Reference7Ideal.Read.val_main_v22_eq]
    obtain ⟨e0, e1, e2, e3⟩ := hag c
    rw [e0, e1, e2, e3]
    refine funext fun (y : (⟨2, ![136, 12288]⟩ : Shape).Idx) => ?_
    idx_vars y
    exact Cert.Kernel7Ideal.Val.reference_apply _ _ _ _ y0 y1

end Cert.Modulation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pages_in_pool
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.ScoresClaim
public import proofs.«01_k».proof.Proof.ProjClaim
public import proofs.«01_k».proof.Proof.Merge
public import proofs.«01_k».proof.Proof.Resid
public import proofs.«01_k».proof.Proof.PeerClaim
public import proofs.«01_k».proof.Proof.AddPeer
public import proofs.«01_k».proof.Proof.Modulation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_pages_in_pool.Gen.facts,
  Cert.Scores.frame_kernel, Cert.Scores.frame_ideal, Cert.Scores.frame_reference,
  Cert.Proj.frame_kernel, Cert.Proj.frame_ideal, Cert.Proj.frame_reference,
  Cert.Merge.frame_kernel, Cert.Merge.frame_ideal, Cert.Merge.frame_reference,
  Cert.Resid.frame_kernel, Cert.Resid.frame_ideal, Cert.Resid.frame_reference,
  Cert.Peer.frame_kernel, Cert.Peer.frame_ideal, Cert.Peer.frame_reference,
  Cert.AddPeer.frame_kernel, Cert.AddPeer.frame_ideal, Cert.AddPeer.frame_reference,
  Cert.Modulation.frame_kernel, Cert.Modulation.frame_ideal, Cert.Modulation.frame_reference,
  trivial, Cert.Scores.algebraic, trivial, Cert.Proj.algebraic, trivial, Cert.Merge.algebraic, trivial, Cert.Resid.algebraic,
  trivial, Cert.Peer.algebraic, trivial, Cert.AddPeer.algebraic, trivial, Cert.Modulation.algebraic⟩

end Cert.Proof

end
